-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S1024x4096 : Shape := ⟨2, ![1024, 4096]⟩
abbrev S4096x2048 : Shape := ⟨2, ![4096, 2048]⟩
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  dot_S1024x4096_S4096x2048_S1024x2048_1_0_0_1_n_n_wf : DotDims.WF S1024x4096 S4096x2048 S1024x2048 [1] [0] [0] [1] [] []

variable [Facts]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def fn {F : FTy → Type} [FloatOps F] (main_arg0 : FVec F S1024x4096 .f32) (main_arg1 : FVec F S4096x2048 .f32) : IVec S_ 1 :=
  let main_v0 : FVec F S1024x2048 .f32 := (fun l r => Host.dotGeneral dot_S1024x4096_S4096x2048_S1024x2048_1_0_0_1_n_n none l r) main_arg0 main_arg1
  let main_v1 : FVec F S1024x2048 .f32 := Host.absf main_v0
  let main_cst : FVec F S_ .f32 := constant S_ .f32 0x42700000#32
  let main_v2 : FVec F S1024x2048 .f32 := broadcastInDim S1024x2048 ![] bcast_S_S1024x2048 main_cst
  let main_v3 : IVec S1024x2048 1 := cmpf .ole main_v1 main_v2
  let main_c : IVec S_ 1 := constantI S_ 1 1#1
  let main_v4 : IVec S_ 1 := (fun x v => Host.reduce IntOp.andi x v reducesTo_S1024x2048_S_d0_1 h_S_) main_v3 main_c
  main_v4
-- ==== Pre_in_range_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S_ 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  let main_c : IVec S_ 1 := constantI S_ 1 1#1
  let main_v4 : IVec S_ 1 := (fun x v => Host.reduce IntOp.andi x v reducesTo_S4096x2048_S_d0_1 h_S_) main_v3 main_c
  main_v4
-- ==== Kernel.lean ====
abbrev S1024x4096 : Shape := ⟨2, ![1024, 4096]⟩
abbrev S4096x2048 : Shape := ⟨2, ![4096, 2048]⟩
abbrev S4096x512 : Shape := ⟨2, ![4096, 512]⟩
abbrev S3x4096x512 : Shape := ⟨3, ![3, 4096, 512]⟩
abbrev S3x1024x512 : Shape := ⟨3, ![3, 1024, 512]⟩
abbrev S3x2 : Shape := ⟨2, ![3, 2]⟩
abbrev S3x4 : Shape := ⟨2, ![3, 4]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S256x4096 : Shape := ⟨2, ![256, 4096]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S3x4096x512, .f32⟩
  | .local _ .vmem, ⟨3, _⟩ => ⟨S3x1024x512, .bf16⟩
  | .local _ .vmem, ⟨4, _⟩ => ⟨S3x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  ![0, v14.toNat]
def k0_off2 (d0 : Dev nD) (c2_i32 : BitVec 32) : Fin 2 → Nat :=
  let c2048_i32_16 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32_11 : BitVec 32 := 512#32
  let v20 : BitVec 32 := Scalar.muli v13 c512_i32_11
  ![2048, v20.toNat]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_58 : BitVec 32 := 0#32
  let v73 : BitVec 1 := Scalar.cmpi .ne v2 c0_i32_58
  let v74 : BitVec 32 := Scalar.extui v73
  let c0_i32_59 : BitVec 32 := 0#32
  let v75 : BitVec 1 := Scalar.cmpi .ne v74 c0_i32_59
  v75

def k0_dev1 : Nat :=
  let c0_i32_870 : BitVec 32 := 0#32
  let c0_i32_868 : BitVec 32 := 0#32
  let c1_i32_869 : BitVec 32 := 1#32
  let v861 : BitVec 32 := Scalar.muli c0_i32_868 c1_i32_869
  let v862 : BitVec 32 := Scalar.addi c0_i32_870 v861
  v862.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v76 : BitVec 1 := Scalar.cmpi .ne v2 c1_i32_60
  let v77 : BitVec 32 := Scalar.extui v76
  let c0_i32_61 : BitVec 32 := 0#32
  let v78 : BitVec 1 := Scalar.cmpi .ne v77 c0_i32_61
  v78

def k0_dev2 : Nat :=
  let c0_i32_870 : BitVec 32 := 0#32
  let c1_i32_868 : BitVec 32 := 1#32
  let c1_i32_869 : BitVec 32 := 1#32
  let v861 : BitVec 32 := Scalar.muli c1_i32_868 c1_i32_869
  let v862 : BitVec 32 := Scalar.addi c0_i32_870 v861
  v862.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_62 : BitVec 32 := 2#32
  let v79 : BitVec 1 := Scalar.cmpi .ne v2 c2_i32_62
  let v80 : BitVec 32 := Scalar.extui v79
  let c0_i32_63 : BitVec 32 := 0#32
  let v81 : BitVec 1 := Scalar.cmpi .ne v80 c0_i32_63
  v81

def k0_dev3 : Nat :=
  let c0_i32_870 : BitVec 32 := 0#32
  let c2_i32_868 : BitVec 32 := 2#32
  let c1_i32_869 : BitVec 32 := 1#32
  let v861 : BitVec 32 := Scalar.muli c2_i32_868 c1_i32_869
  let v862 : BitVec 32 := Scalar.addi c0_i32_870 v861
  v862.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v82 : BitVec 1 := Scalar.cmpi .ne v2 c3_i32_64
  let v83 : BitVec 32 := Scalar.extui v82
  let c0_i32_65 : BitVec 32 := 0#32
  let v84 : BitVec 1 := Scalar.cmpi .ne v83 c0_i32_65
  v84

def k0_dev4 : Nat :=
  let c0_i32_870 : BitVec 32 := 0#32
  let c3_i32_868 : BitVec 32 := 3#32
  let c1_i32_869 : BitVec 32 := 1#32
  let v861 : BitVec 32 := Scalar.muli c3_i32_868 c1_i32_869
  let v862 : BitVec 32 := Scalar.addi c0_i32_870 v861
  v862.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v106 : BitVec 32 := Scalar.addi v2 c2_i32_85
  let c4_i32_86 : BitVec 32 := 4#32
  let c0_i32_87 : BitVec 32 := 0#32
  let v107 : BitVec 1 := Scalar.cmpi .eq c4_i32_86 c0_i32_87
  let c1_i32_88 : BitVec 32 := 1#32
  let v108 : BitVec 32 := Scalar.select v107 c1_i32_88 c4_i32_86
  let v109 : BitVec 32 := Scalar.remsi v106 v108
  let c0_i32_90 : BitVec 32 := 0#32
  let v111 : BitVec 1 := Scalar.cmpi .slt v109 c0_i32_90
  let c0_i32_91 : BitVec 32 := 0#32
  let v112 : BitVec 1 := Scalar.cmpi .slt v108 c0_i32_91
  let v113 : BitVec 1 := Scalar.xori v111 v112
  let c0_i32_89 : BitVec 32 := 0#32
  let v110 : BitVec 1 := Scalar.cmpi .ne v109 c0_i32_89
  let v114 : BitVec 1 := Scalar.andi v113 v110
  let v115 : BitVec 32 := Scalar.addi v109 v108
  let v116 : BitVec 32 := Scalar.select v114 v115 v109
  let c1_i32_98 : BitVec 32 := 1#32
  let v117 : BitVec 32 := Scalar.muli v116 c1_i32_98
  let v118 : BitVec 32 := Scalar.addi c0_i32_99 v117
  v118.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_112 : BitVec 32 := 2#32
  let v138 : BitVec 32 := Scalar.addi v2 c2_i32_112
  let c4_i32_113 : BitVec 32 := 4#32
  let c0_i32_114 : BitVec 32 := 0#32
  let v139 : BitVec 1 := Scalar.cmpi .eq c4_i32_113 c0_i32_114
  let c1_i32_115 : BitVec 32 := 1#32
  let v140 : BitVec 32 := Scalar.select v139 c1_i32_115 c4_i32_113
  let v141 : BitVec 32 := Scalar.remsi v138 v140
  let c0_i32_117 : BitVec 32 := 0#32
  let v143 : BitVec 1 := Scalar.cmpi .slt v141 c0_i32_117
  let c0_i32_118 : BitVec 32 := 0#32
  let v144 : BitVec 1 := Scalar.cmpi .slt v140 c0_i32_118
  let v145 : BitVec 1 := Scalar.xori v143 v144
  let c0_i32_116 : BitVec 32 := 0#32
  let v142 : BitVec 1 := Scalar.cmpi .ne v141 c0_i32_116
  let v146 : BitVec 1 := Scalar.andi v145 v142
  let v147 : BitVec 32 := Scalar.addi v141 v140
  let v148 : BitVec 32 := Scalar.select v146 v147 v141
  let c1_i32_125 : BitVec 32 := 1#32
  let v149 : BitVec 32 := Scalar.muli v148 c1_i32_125
  let v150 : BitVec 32 := Scalar.addi c0_i32_126 v149
  v150.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_138 : BitVec 32 := 2#32
  let v170 : BitVec 32 := Scalar.addi v2 c2_i32_138
  let c4_i32_139 : BitVec 32 := 4#32
  let c0_i32_140 : BitVec 32 := 0#32
  let v171 : BitVec 1 := Scalar.cmpi .eq c4_i32_139 c0_i32_140
  let c1_i32_141 : BitVec 32 := 1#32
  let v172 : BitVec 32 := Scalar.select v171 c1_i32_141 c4_i32_139
  let v173 : BitVec 32 := Scalar.remsi v170 v172
  let c0_i32_143 : BitVec 32 := 0#32
  let v175 : BitVec 1 := Scalar.cmpi .slt v173 c0_i32_143
  let c0_i32_144 : BitVec 32 := 0#32
  let v176 : BitVec 1 := Scalar.cmpi .slt v172 c0_i32_144
  let v177 : BitVec 1 := Scalar.xori v175 v176
  let c0_i32_142 : BitVec 32 := 0#32
  let v174 : BitVec 1 := Scalar.cmpi .ne v173 c0_i32_142
  let v178 : BitVec 1 := Scalar.andi v177 v174
  let v179 : BitVec 32 := Scalar.addi v173 v172
  let v180 : BitVec 32 := Scalar.select v178 v179 v173
  let c1_i32_151 : BitVec 32 := 1#32
  let v181 : BitVec 32 := Scalar.muli v180 c1_i32_151
  let v182 : BitVec 32 := Scalar.addi c0_i32_152 v181
  v182.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_165 : BitVec 32 := 2#32
  let v202 : BitVec 32 := Scalar.addi v2 c2_i32_165
  let c4_i32_166 : BitVec 32 := 4#32
  let c0_i32_167 : BitVec 32 := 0#32
  let v203 : BitVec 1 := Scalar.cmpi .eq c4_i32_166 c0_i32_167
  let c1_i32_168 : BitVec 32 := 1#32
  let v204 : BitVec 32 := Scalar.select v203 c1_i32_168 c4_i32_166
  let v205 : BitVec 32 := Scalar.remsi v202 v204
  let c0_i32_170 : BitVec 32 := 0#32
  let v207 : BitVec 1 := Scalar.cmpi .slt v205 c0_i32_170
  let c0_i32_171 : BitVec 32 := 0#32
  let v208 : BitVec 1 := Scalar.cmpi .slt v204 c0_i32_171
  let v209 : BitVec 1 := Scalar.xori v207 v208
  let c0_i32_169 : BitVec 32 := 0#32
  let v206 : BitVec 1 := Scalar.cmpi .ne v205 c0_i32_169
  let v210 : BitVec 1 := Scalar.andi v209 v206
  let v211 : BitVec 32 := Scalar.addi v205 v204
  let v212 : BitVec 32 := Scalar.select v210 v211 v205
  let c1_i32_178 : BitVec 32 := 1#32
  let v213 : BitVec 32 := Scalar.muli v212 c1_i32_178
  let v214 : BitVec 32 := Scalar.addi c0_i32_179 v213
  v214.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v267 : BitVec 32 := Scalar.addi v2 c1_i32_225
  let c4_i32_226 : BitVec 32 := 4#32
  let c0_i32_227 : BitVec 32 := 0#32
  let v268 : BitVec 1 := Scalar.cmpi .eq c4_i32_226 c0_i32_227
  let c1_i32_228 : BitVec 32 := 1#32
  let v269 : BitVec 32 := Scalar.select v268 c1_i32_228 c4_i32_226
  let v270 : BitVec 32 := Scalar.remsi v267 v269
  let c0_i32_230 : BitVec 32 := 0#32
  let v272 : BitVec 1 := Scalar.cmpi .slt v270 c0_i32_230
  let c0_i32_231 : BitVec 32 := 0#32
  let v273 : BitVec 1 := Scalar.cmpi .slt v269 c0_i32_231
  let v274 : BitVec 1 := Scalar.xori v272 v273
  let c0_i32_229 : BitVec 32 := 0#32
  let v271 : BitVec 1 := Scalar.cmpi .ne v270 c0_i32_229
  let v275 : BitVec 1 := Scalar.andi v274 v271
  let v276 : BitVec 32 := Scalar.addi v270 v269
  let v277 : BitVec 32 := Scalar.select v275 v276 v270
  let c1_i32_238 : BitVec 32 := 1#32
  let v278 : BitVec 32 := Scalar.muli v277 c1_i32_238
  let v279 : BitVec 32 := Scalar.addi c0_i32_239 v278
  v279.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_253 : BitVec 32 := 1#32
  let v299 : BitVec 32 := Scalar.addi v2 c1_i32_253
  let c4_i32_254 : BitVec 32 := 4#32
  let c0_i32_255 : BitVec 32 := 0#32
  let v300 : BitVec 1 := Scalar.cmpi .eq c4_i32_254 c0_i32_255
  let c1_i32_256 : BitVec 32 := 1#32
  let v301 : BitVec 32 := Scalar.select v300 c1_i32_256 c4_i32_254
  let v302 : BitVec 32 := Scalar.remsi v299 v301
  let c0_i32_258 : BitVec 32 := 0#32
  let v304 : BitVec 1 := Scalar.cmpi .slt v302 c0_i32_258
  let c0_i32_259 : BitVec 32 := 0#32
  let v305 : BitVec 1 := Scalar.cmpi .slt v301 c0_i32_259
  let v306 : BitVec 1 := Scalar.xori v304 v305
  let c0_i32_257 : BitVec 32 := 0#32
  let v303 : BitVec 1 := Scalar.cmpi .ne v302 c0_i32_257
  let v307 : BitVec 1 := Scalar.andi v306 v303
  let v308 : BitVec 32 := Scalar.addi v302 v301
  let v309 : BitVec 32 := Scalar.select v307 v308 v302
  let c1_i32_266 : BitVec 32 := 1#32
  let v310 : BitVec 32 := Scalar.muli v309 c1_i32_266
  let v311 : BitVec 32 := Scalar.addi c0_i32_267 v310
  v311.toNat
def k0_dev11 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_281 : BitVec 32 := 1#32
  let v331 : BitVec 32 := Scalar.addi v2 c1_i32_281
  let c4_i32_282 : BitVec 32 := 4#32
  let c0_i32_283 : BitVec 32 := 0#32
  let v332 : BitVec 1 := Scalar.cmpi .eq c4_i32_282 c0_i32_283
  let c1_i32_284 : BitVec 32 := 1#32
  let v333 : BitVec 32 := Scalar.select v332 c1_i32_284 c4_i32_282
  let v334 : BitVec 32 := Scalar.remsi v331 v333
  let c0_i32_286 : BitVec 32 := 0#32
  let v336 : BitVec 1 := Scalar.cmpi .slt v334 c0_i32_286
  let c0_i32_287 : BitVec 32 := 0#32
  let v337 : BitVec 1 := Scalar.cmpi .slt v333 c0_i32_287
  let v338 : BitVec 1 := Scalar.xori v336 v337
  let c0_i32_285 : BitVec 32 := 0#32
  let v335 : BitVec 1 := Scalar.cmpi .ne v334 c0_i32_285
  let v339 : BitVec 1 := Scalar.andi v338 v335
  let v340 : BitVec 32 := Scalar.addi v334 v333
  let v341 : BitVec 32 := Scalar.select v339 v340 v334
  let c1_i32_294 : BitVec 32 := 1#32
  let v342 : BitVec 32 := Scalar.muli v341 c1_i32_294
  let v343 : BitVec 32 := Scalar.addi c0_i32_295 v342
  v343.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_309 : BitVec 32 := 1#32
  let v363 : BitVec 32 := Scalar.addi v2 c1_i32_309
  let c4_i32_310 : BitVec 32 := 4#32
  let c0_i32_311 : BitVec 32 := 0#32
  let v364 : BitVec 1 := Scalar.cmpi .eq c4_i32_310 c0_i32_311
  let c1_i32_312 : BitVec 32 := 1#32
  let v365 : BitVec 32 := Scalar.select v364 c1_i32_312 c4_i32_310
  let v366 : BitVec 32 := Scalar.remsi v363 v365
  let c0_i32_314 : BitVec 32 := 0#32
  let v368 : BitVec 1 := Scalar.cmpi .slt v366 c0_i32_314
  let c0_i32_315 : BitVec 32 := 0#32
  let v369 : BitVec 1 := Scalar.cmpi .slt v365 c0_i32_315
  let v370 : BitVec 1 := Scalar.xori v368 v369
  let c0_i32_313 : BitVec 32 := 0#32
  let v367 : BitVec 1 := Scalar.cmpi .ne v366 c0_i32_313
  let v371 : BitVec 1 := Scalar.andi v370 v367
  let v372 : BitVec 32 := Scalar.addi v366 v365
  let v373 : BitVec 32 := Scalar.select v371 v372 v366
  let c1_i32_322 : BitVec 32 := 1#32
  let v374 : BitVec 32 := Scalar.muli v373 c1_i32_322
  let v375 : BitVec 32 := Scalar.addi c0_i32_323 v374
  v375.toNat
def k0_dev13 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_348 : BitVec 32 := 3#32
  let v405 : BitVec 32 := Scalar.addi v2 c3_i32_348
  let c4_i32_349 : BitVec 32 := 4#32
  let c0_i32_350 : BitVec 32 := 0#32
  let v406 : BitVec 1 := Scalar.cmpi .eq c4_i32_349 c0_i32_350
  let c1_i32_351 : BitVec 32 := 1#32
  let v407 : BitVec 32 := Scalar.select v406 c1_i32_351 c4_i32_349
  let v408 : BitVec 32 := Scalar.remsi v405 v407
  let c0_i32_353 : BitVec 32 := 0#32
  let v410 : BitVec 1 := Scalar.cmpi .slt v408 c0_i32_353
  let c0_i32_354 : BitVec 32 := 0#32
  let v411 : BitVec 1 := Scalar.cmpi .slt v407 c0_i32_354
  let v412 : BitVec 1 := Scalar.xori v410 v411
  let c0_i32_352 : BitVec 32 := 0#32
  let v409 : BitVec 1 := Scalar.cmpi .ne v408 c0_i32_352
  let v413 : BitVec 1 := Scalar.andi v412 v409
  let v414 : BitVec 32 := Scalar.addi v408 v407
  let v415 : BitVec 32 := Scalar.select v413 v414 v408
  let c1_i32_361 : BitVec 32 := 1#32
  let v416 : BitVec 32 := Scalar.muli v415 c1_i32_361
  let v417 : BitVec 32 := Scalar.addi c0_i32_362 v416
  v417.toNat
def k0_dev14 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_376 : BitVec 32 := 3#32
  let v437 : BitVec 32 := Scalar.addi v2 c3_i32_376
  let c4_i32_377 : BitVec 32 := 4#32
  let c0_i32_378 : BitVec 32 := 0#32
  let v438 : BitVec 1 := Scalar.cmpi .eq c4_i32_377 c0_i32_378
  let c1_i32_379 : BitVec 32 := 1#32
  let v439 : BitVec 32 := Scalar.select v438 c1_i32_379 c4_i32_377
  let v440 : BitVec 32 := Scalar.remsi v437 v439
  let c0_i32_381 : BitVec 32 := 0#32
  let v442 : BitVec 1 := Scalar.cmpi .slt v440 c0_i32_381
  let c0_i32_382 : BitVec 32 := 0#32
  let v443 : BitVec 1 := Scalar.cmpi .slt v439 c0_i32_382
  let v444 : BitVec 1 := Scalar.xori v442 v443
  let c0_i32_380 : BitVec 32 := 0#32
  let v441 : BitVec 1 := Scalar.cmpi .ne v440 c0_i32_380
  let v445 : BitVec 1 := Scalar.andi v444 v441
  let v446 : BitVec 32 := Scalar.addi v440 v439
  let v447 : BitVec 32 := Scalar.select v445 v446 v440
  let c1_i32_389 : BitVec 32 := 1#32
  let v448 : BitVec 32 := Scalar.muli v447 c1_i32_389
  let v449 : BitVec 32 := Scalar.addi c0_i32_390 v448
  v449.toNat
def k0_dev15 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_404 : BitVec 32 := 3#32
  let v469 : BitVec 32 := Scalar.addi v2 c3_i32_404
  let c4_i32_405 : BitVec 32 := 4#32
  let c0_i32_406 : BitVec 32 := 0#32
  let v470 : BitVec 1 := Scalar.cmpi .eq c4_i32_405 c0_i32_406
  let c1_i32_407 : BitVec 32 := 1#32
  let v471 : BitVec 32 := Scalar.select v470 c1_i32_407 c4_i32_405
  let v472 : BitVec 32 := Scalar.remsi v469 v471
  let c0_i32_409 : BitVec 32 := 0#32
  let v474 : BitVec 1 := Scalar.cmpi .slt v472 c0_i32_409
  let c0_i32_410 : BitVec 32 := 0#32
  let v475 : BitVec 1 := Scalar.cmpi .slt v471 c0_i32_410
  let v476 : BitVec 1 := Scalar.xori v474 v475
  let c0_i32_408 : BitVec 32 := 0#32
  let v473 : BitVec 1 := Scalar.cmpi .ne v472 c0_i32_408
  let v477 : BitVec 1 := Scalar.andi v476 v473
  let v478 : BitVec 32 := Scalar.addi v472 v471
  let v479 : BitVec 32 := Scalar.select v477 v478 v472
  let c1_i32_417 : BitVec 32 := 1#32
  let v480 : BitVec 32 := Scalar.muli v479 c1_i32_417
  let v481 : BitVec 32 := Scalar.addi c0_i32_418 v480
  v481.toNat
def k0_dev16 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_432 : BitVec 32 := 3#32
  let v501 : BitVec 32 := Scalar.addi v2 c3_i32_432
  let c4_i32_433 : BitVec 32 := 4#32
  let c0_i32_434 : BitVec 32 := 0#32
  let v502 : BitVec 1 := Scalar.cmpi .eq c4_i32_433 c0_i32_434
  let c1_i32_435 : BitVec 32 := 1#32
  let v503 : BitVec 32 := Scalar.select v502 c1_i32_435 c4_i32_433
  let v504 : BitVec 32 := Scalar.remsi v501 v503
  let c0_i32_437 : BitVec 32 := 0#32
  let v506 : BitVec 1 := Scalar.cmpi .slt v504 c0_i32_437
  let c0_i32_438 : BitVec 32 := 0#32
  let v507 : BitVec 1 := Scalar.cmpi .slt v503 c0_i32_438
  let v508 : BitVec 1 := Scalar.xori v506 v507
  let c0_i32_436 : BitVec 32 := 0#32
  let v505 : BitVec 1 := Scalar.cmpi .ne v504 c0_i32_436
  let v509 : BitVec 1 := Scalar.andi v508 v505
  let v510 : BitVec 32 := Scalar.addi v504 v503
  let v511 : BitVec 32 := Scalar.select v509 v510 v504
  let c1_i32_445 : BitVec 32 := 1#32
  let v512 : BitVec 32 := Scalar.muli v511 c1_i32_445
  let v513 : BitVec 32 := Scalar.addi c0_i32_446 v512
  v513.toNat
def k0_off3 (d0 : Dev nD) (c0_i32_469 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v539 : BitVec 32 := Scalar.muli v2 c1024_i32
  let v540 : BitVec 32 := Scalar.addi v539 c0_i32_469
  let v541 : Index := Scalar.indexCast v540
  let c0_470 : Index := 0#32
  ![v541.toNat, 0]
def k0_off4 (d0 : Dev nD) (c2_i32_498 : BitVec 32) (c0_i32_521 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v576 : BitVec 32 := Scalar.subi v2 c2_i32_498
  let c4_i32_499 : BitVec 32 := 4#32
  let c0_i32_500 : BitVec 32 := 0#32
  let v577 : BitVec 1 := Scalar.cmpi .eq c4_i32_499 c0_i32_500
  let c1_i32_501 : BitVec 32 := 1#32
  let v578 : BitVec 32 := Scalar.select v577 c1_i32_501 c4_i32_499
  let v579 : BitVec 32 := Scalar.remsi v576 v578
  let c0_i32_503 : BitVec 32 := 0#32
  let v581 : BitVec 1 := Scalar.cmpi .slt v579 c0_i32_503
  let c0_i32_504 : BitVec 32 := 0#32
  let v582 : BitVec 1 := Scalar.cmpi .slt v578 c0_i32_504
  let v583 : BitVec 1 := Scalar.xori v581 v582
  let c0_i32_502 : BitVec 32 := 0#32
  let v580 : BitVec 1 := Scalar.cmpi .ne v579 c0_i32_502
  let v584 : BitVec 1 := Scalar.andi v583 v580
  let v585 : BitVec 32 := Scalar.addi v579 v578
  let v586 : BitVec 32 := Scalar.select v584 v585 v579
  let c1024_i32_520 : BitVec 32 := 1024#32
  let v598 : BitVec 32 := Scalar.muli v586 c1024_i32_520
  let v599 : BitVec 32 := Scalar.addi v598 c0_i32_521
  let v600 : Index := Scalar.indexCast v599
  let c0_522 : Index := 0#32
  ![v600.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Places.lean ====
/-
# Where everything is: the ring of four devices, the pieces of the buffers, the semaphores

A device works with three others. Partner `j` (of 0, 1, 2) of device `c` is the device `j + 1` places further round
the ring of four; what device `c` receives under `j` comes from the device `j + 1` places before it. Each exchange is cut in
four pieces of 256 rows, so a message is named by a pair (partner, piece).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mesh

open Cert.KernelIdeal Cert.KernelIdeal.Gen

open Idealize.ShloMosaic
open Idealize.ShloMosaic.TcCoe

/-! ## The ring -/

/-- A message of a device: the partner it is exchanged with, and the piece. -/
abbrev Msg : Type := Fin 3 × Fin 4

set_option backward.proofsInPublic true in
/-- Partner `j` of device `c`: `j + 1` places further. -/
def peer (c : Dev nD) (j : Fin 3) : Dev nD := ⟨(c.val + j.val + 1) % 4, Nat.mod_lt _ (by decide)⟩
set_option backward.proofsInPublic true in
/-- The device whose partner `j` is `c`: `j + 1` places before. -/
def unpeer (c : Dev nD) (j : Fin 3) : Dev nD := ⟨(c.val + 3 - j.val) % 4, Nat.mod_lt _ (by decide)⟩
set_option backward.proofsInPublic true in
/-- Under which number device `p` is a partner of device `c`. -/
def idx (c p : Dev nD) : Fin 3 := ⟨(p.val + 3 - c.val) % 4 % 3, Nat.mod_lt _ (by decide)⟩

theorem unpeer_peer (c : Dev nD) (j : Fin 3) : unpeer (peer c j) j = c := by revert c j; decide
theorem peer_unpeer (c : Dev nD) (j : Fin 3) : peer (unpeer c j) j = c := by revert c j; decide
theorem peer_ne (c : Dev nD) (j : Fin 3) : peer c j ≠ c := by revert c j; decide
theorem unpeer_ne (c : Dev nD) (j : Fin 3) : unpeer c j ≠ c := by revert c j; decide
theorem idx_peer (c : Dev nD) (j : Fin 3) : idx c (peer c j) = j := by revert c j; decide
theorem idx_unpeer (c : Dev nD) (j : Fin 3) : idx (unpeer c j) c = j := by revert c j; decide
theorem peer_idx (c p : Dev nD) (h : p ≠ c) : peer c (idx c p) = p := by revert c p; decide
theorem peer_inj (c : Dev nD) : Function.Injective (peer c) := by revert c; decide
theorem unpeer_inj (c : Dev nD) : Function.Injective (unpeer c) := by revert c; decide

/-- The other devices are the partners, -/
theorem others_peer (c : Dev nD) : Finset.univ.erase c = Finset.univ.map ⟨peer c, peer_inj c⟩ := by revert c; decide
/-- and are the devices it is a partner of. -/
theorem others_unpeer (c : Dev nD) : Finset.univ.erase c = Finset.univ.map ⟨unpeer c, unpeer_inj c⟩ := by revert c; decide

/-- Moving every device `j + 1` places round is a permutation. -/
def turn (j : Fin 3) : Dev nD ≃ Dev nD := ⟨fun c => peer c j, fun c => unpeer c j, fun c => unpeer_peer c j, fun c => peer_unpeer c j⟩

/-! ## The buffers of the body -/

/-- The device's rows of `x`, staged. -/
abbrev xM : Memref sig .tc .vmem S1024x4096 .f32 := Memref.whole cc0_stg0_0
/-- The weights, whole. -/
abbrev wM : Memref sig .tc .hbm S4096x2048 .f32 := Memref.whole main_arg1
/-- The device's columns of the result, staged. -/
abbrev oM : Memref sig .tc .vmem S4096x512 .f32 := Memref.whole cc0_stg1_0
/-- Three slots for a block of columns of the weights. -/
abbrev bM : Memref sig .tc .vmem S3x4096x512 .f32 := Memref.whole cc0_scratch0
/-- The tiles to send. -/
abbrev tM : Memref sig .tc .vmem S3x1024x512 .bf16 := Memref.whole cc0_scratch1
/-- The tiles received. -/
abbrev rM : Memref sig .tc .vmem S3x1024x512 .bf16 := Memref.whole cc0_scratch2

/-! ## Their pieces -/

/-- Piece `p` of the tiles to send, and of the tiles received. -/
abbrev rectP (p : Msg) : Rect S3x1024x512 :=
  Rect.unit (s := S3x1024x512) ![p.1.val, 256 * p.2.val, 0] S1x256x512.size (by revert p; decide)
/-- Half `b` of slot `s` of the weights' buffer. -/
abbrev rectW (p : Fin 3 × Fin 2) : Rect S3x4096x512 :=
  Rect.unit (s := S3x4096x512) ![p.1.val, 2048 * p.2.val, 0] S1x2048x512.size (by revert p; decide)
/-- Slot `s` of the weights' buffer. -/
abbrev rectS (s : Fin 3) : Rect S3x4096x512 :=
  Rect.unit (s := S3x4096x512) ![s.val, 0, 0] S1x4096x512.size (by revert s; decide)
/-- Piece `h` of the rows of the result that belong to device `s`'s rows of `x`. -/
abbrev rectO (p : Dev nD × Fin 4) : Rect S4096x512 :=
  Rect.unit (s := S4096x512) ![1024 * p.1.val + 256 * p.2.val, 0] S256x512.size (by revert p; decide)
/-- Piece `h` of the device's rows of `x`. -/
abbrev rectX (h : Fin 4) : Rect S1024x4096 :=
  Rect.unit (s := S1024x4096) ![256 * h.val, 0] S256x4096.size (by revert h; decide)
/-- Half `b` of column block `e` of the weights. -/
abbrev rectV (e : Dev nD) (b : Fin 2) : Rect S4096x2048 :=
  Rect.unit (s := S4096x2048) ![2048 * b.val, 512 * e.val] S2048x512.size (by revert e b; decide)

/-! ## The semaphores -/

/-- The barrier semaphore. -/
abbrev barS : Sem sig := (SemArray.scalar (sig.barrier 0 rfl) : Sems sig S_).sem
set_option backward.proofsInPublic true in
/-- The semaphore of the fetch into half `p.2` of slot `p.1`. -/
def fetS (p : Fin 3 × Fin 2) : DmaSem sig := ⟨2 + 2 * p.1.val + p.2.val, by have := p.1.isLt; have := p.2.isLt; show _ < 32; omega⟩
set_option backward.proofsInPublic true in
/-- The semaphore that says message `p` has left. -/
def sendS (p : Msg) : DmaSem sig := ⟨8 + 4 * p.1.val + p.2.val, by have := p.1.isLt; have := p.2.isLt; show _ < 32; omega⟩
set_option backward.proofsInPublic true in
/-- The semaphore that says message `p` has arrived. -/
def recvS (p : Msg) : DmaSem sig := ⟨20 + 4 * p.1.val + p.2.val, by have := p.1.isLt; have := p.2.isLt; show _ < 32; omega⟩
/-- The message of the `n`-th semaphore of such an array. -/
def msgAt (n : ℕ) : Msg := (⟨n / 4 % 3, Nat.mod_lt _ (by decide)⟩, ⟨n % 4, Nat.mod_lt _ (by decide)⟩)

theorem msgAt_send (p : Msg) : msgAt ((sendS p).val - 8) = p := by revert p; decide
theorem msgAt_recv (p : Msg) : msgAt ((recvS p).val - 20) = p := by revert p; decide
theorem sendS_inj : Function.Injective sendS := by decide
theorem recvS_inj : Function.Injective recvS := by decide
theorem sendS_lt (p : Msg) : (sendS p).val < 20 := by revert p; decide
theorem sendS_ge (p : Msg) : 8 ≤ (sendS p).val := by revert p; decide
theorem recvS_ge (p : Msg) : 20 ≤ (recvS p).val := by revert p; decide
theorem recvS_not_lt (p : Msg) : ¬ (recvS p).val < 20 := Nat.not_lt.2 (recvS_ge p)
theorem fetS_lt (p : Fin 3 × Fin 2) : (fetS p).val < 20 := by revert p; decide

/-! ## What the printed words of device `c` are -/

theorem off1_eq (c : Dev nD) : k0_off1 c 0#32 = ![0, 512 * c.val] := by revert c; decide +kernel
theorem off2_eq (c : Dev nD) : k0_off2 c 0#32 = ![2048, 512 * c.val] := by revert c; decide +kernel
theorem off1_peer0 (c : Dev nD) : k0_off1 c 1#32 = ![0, 512 * (peer c 0).val] := by revert c; decide +kernel
theorem off2_peer0 (c : Dev nD) : k0_off2 c 1#32 = ![2048, 512 * (peer c 0).val] := by revert c; decide +kernel
theorem off1_peer1 (c : Dev nD) : k0_off1 c 2#32 = ![0, 512 * (peer c 1).val] := by revert c; decide +kernel
theorem off2_peer1 (c : Dev nD) : k0_off2 c 2#32 = ![2048, 512 * (peer c 1).val] := by revert c; decide +kernel
theorem off1_peer2 (c : Dev nD) : k0_off1 c 3#32 = ![0, 512 * (peer c 2).val] := by revert c; decide +kernel
theorem off2_peer2 (c : Dev nD) : k0_off2 c 3#32 = ![2048, 512 * (peer c 2).val] := by revert c; decide +kernel

theorem off3_eq (c : Dev nD) (h : Fin 4) : k0_off3 c (BitVec.ofNat 32 (256 * h.val)) = ![1024 * c.val + 256 * h.val, 0] := k0_off3_eq c h
theorem off4_eq (c : Dev nD) (j : Fin 3) (h : Fin 4) :
    k0_off4 c (BitVec.ofNat 32 (1 + j.val)) (BitVec.ofNat 32 (256 * h.val)) = ![1024 * (unpeer c j).val + 256 * h.val, 0] := by
  revert c j h; decide +kernel

theorem dev1_eq (c : Dev nD) (h : k0_cond1 c = 1#1) : (⟨k0_dev1, k0_dev1_lt c h⟩ : Dev nD) = 0 := Fin.ext k0_dev1_eq
theorem dev2_eq (c : Dev nD) (h : k0_cond2 c = 1#1) : (⟨k0_dev2, k0_dev2_lt c h⟩ : Dev nD) = 1 := Fin.ext k0_dev2_eq
theorem dev3_eq (c : Dev nD) (h : k0_cond3 c = 1#1) : (⟨k0_dev3, k0_dev3_lt c h⟩ : Dev nD) = 2 := Fin.ext k0_dev3_eq
theorem dev4_eq (c : Dev nD) (h : k0_cond4 c = 1#1) : (⟨k0_dev4, k0_dev4_lt c h⟩ : Dev nD) = 3 := Fin.ext k0_dev4_eq
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 1 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 0 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 0 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 2 := by revert c; decide +kernel
theorem dev15_eq (c : Dev nD) : (⟨k0_dev15 c, k0_dev15_lt c⟩ : Dev nD) = peer c 2 := by revert c; decide +kernel
theorem dev16_eq (c : Dev nD) : (⟨k0_dev16 c, k0_dev16_lt c⟩ : Dev nD) = peer c 2 := by revert c; decide +kernel

/-- A device signals every device but itself. -/
theorem cond1_iff (c : Dev nD) : k0_cond1 c = 1#1 ↔ (0 : Dev nD) ≠ c := by revert c; decide +kernel
theorem cond2_iff (c : Dev nD) : k0_cond2 c = 1#1 ↔ (1 : Dev nD) ≠ c := by revert c; decide +kernel
theorem cond3_iff (c : Dev nD) : k0_cond3 c = 1#1 ↔ (2 : Dev nD) ≠ c := by revert c; decide +kernel
theorem cond4_iff (c : Dev nD) : k0_cond4 c = 1#1 ↔ (3 : Dev nD) ≠ c := by revert c; decide +kernel

/-! ## What the printed semaphores are -/

theorem sem_fet (p : Fin 3 × Fin 2) (inb : ∀ a, (![p.1.val, p.2.val] : Fin 2 → Nat) a + S1x1.size a ≤ S3x2.size a) :
    ((cc0_scratch3.slice (Rect.unit (s := S3x2) ![p.1.val, p.2.val] S1x1.size inb)).squeeze S_ squeezes_S1x1_S_).sem = fetS p := by
  revert p; decide +kernel
theorem sem_send (p : Msg) (inb : ∀ a, (![p.1.val, p.2.val] : Fin 2 → Nat) a + S1x1.size a ≤ S3x4.size a) :
    ((cc0_scratch4.slice (Rect.unit (s := S3x4) ![p.1.val, p.2.val] S1x1.size inb)).squeeze S_ squeezes_S1x1_S_).sem = sendS p := by
  revert p; decide +kernel
theorem sem_recv (p : Msg) (inb : ∀ a, (![p.1.val, p.2.val] : Fin 2 → Nat) a + S1x1.size a ≤ S3x4.size a) :
    ((cc0_scratch5.slice (Rect.unit (s := S3x4) ![p.1.val, p.2.val] S1x1.size inb)).squeeze S_ squeezes_S1x1_S_).sem = recvS p := by
  revert p; decide +kernel

end Cert.Mesh

end
-- ==== Proof.Protocol.lean ====
/-
# The protocol of the exchange

The memory the devices start from, what each message carries, and the schedule of the semaphores: who adds to which
counter, how much, and what is handed over with it. Every counter has one round.

* Device `c`'s barrier counter gets one unit from each other device `p`; with it `p` hands over the four pieces of its receive
  buffer that `c` writes.
* The counter of a message sent gets its size when the message has left, and gives the piece of the send buffer back.
* The counter of a message received gets its size when it has arrived, with the piece of the receive buffer holding it.
-/
module

public import proofs.«01_k».proof.Proof.Places
public import Idealize.ShloMosaic.Lib.Transfers
public import Idealize.ShloMosaic.Lib.ValueIdxCore

@[expose] public section

noncomputable section

namespace Cert.Mesh

open Cert.KernelIdeal Cert.KernelIdeal.Gen

open Idealize.ShloMosaic
open Idealize.ShloMosaic.TcCoe
open Idealize.ShloMosaic.ValueIdx (ix2 eq_ix2 ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The exchange's rounds: a duty of a counter is named by the device that pays it. -/
abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans embR
abbrev EC : UEmb Counters (MT nD τ sig Unit (Elt F) ℕ UU ℕ) := countersEmb

variable (m : (ℓ : Loc nD τ sig) → Buf (Elt F) ℓ)

/-- A buffer's view owned whole, at the contents `X`. -/
abbrev has {sp : Space} {s : Shape} {e : EltTy} (c : Dev nD) (M : Memref sig .tc sp s e) (X : s.Idx → Elt F e) : sProp 𝕄 :=
  owns (Ix := Unit) (Name := ℕ) (U := UU) (Lvl := ℕ) (c : Thread nD τ) M fullShare X
/-- The same, whatever it holds. -/
abbrev hasAny {sp : Space} {s : Shape} {e : EltTy} (c : Dev nD) (M : Memref sig .tc sp s e) : sProp 𝕄 :=
  iprop(∃ X : s.Idx → Elt F e, has c M X)

/-! ## The contents -/

/-- The device's rows of `x`. -/
def xv (c : Dev nD) : (cc0_stg0_0 : Ref sig .tc).ty.Contents (Elt F) :=
  (win0_0.blk (0 : Fin 1)).view.read (Elt F) (m ((c : Thread nD τ).loc main_arg0))
/-- The device's copy of the weights. -/
def wv (c : Dev nD) : (main_arg1 : Ref sig .tc).ty.Contents (Elt F) := m ((c : Thread nD τ).loc main_arg1)

/-- Piece `h` of the device's rows of `x`. -/
def xrow (c : Dev nD) (h : Fin 4) : Vec F S256x4096 .f32 :=
  (xM : Memref sig .tc .vmem S1024x4096 .f32).view.readAt (Elt F) (rectX h).toLoadRect (xv m c)
/-- Column block `e` of the device's weights. -/
def wcol (c e : Dev nD) : Vec F S1x4096x512 .f32 :=
  fun i => wv m c (ix2 (⟨(i 1).val, (i 1).isLt⟩ : Fin 4096) (⟨512 * e.val + (i 2).val, by
    have h2 : (i 2).val < 512 := (i 2).isLt
    have he : e.val < 4 := e.isLt
    show _ < 2048; omega⟩ : Fin 2048))

/-- Tile `h` device `c` computes for the columns of device `e`, as it is sent. -/
def tile (c e : Dev nD) (h : Fin 4) : Vec F S1x256x512 .bf16 := k0_pay1 (xrow m c h) (wcol m c e)
/-- Tile `h` device `c` computes for its own columns. -/
def own (c : Dev nD) (h : Fin 4) : Vec F S256x512 .f32 := k0_pay13 (xrow m c h) (wcol m c c)

/-! ## The counters -/

abbrev barCell (c : Dev nD) : GSem nD τ sig := ((c : Thread nD τ), .reg barS)
abbrev sendCell (c : Dev nD) (p : Msg) : GSem nD τ sig := ((c : Thread nD τ), .dma (sendS p))
abbrev recvCell (c : Dev nD) (p : Msg) : GSem nD τ sig := ((c : Thread nD τ), .dma (recvS p))

/-- A piece of the send buffer, of the receive buffer. -/
abbrev tP (p : Msg) : Memref sig .tc .vmem S1x256x512 .bf16 := tM.slice (rectP p) (fun _ => rfl)
abbrev rP (p : Msg) : Memref sig .tc .vmem S1x256x512 .bf16 := rM.slice (rectP p) (fun _ => rfl)

/-- A message's size. -/
abbrev N : ℕ := ((tM.slice (rectP (0, 0)) (fun _ => rfl)).squeeze S256x512 squeezes_S1x256x512_S256x512).view.dmaCredit
theorem N_pos : 0 < N := View.dmaCredit_pos _ (by decide)

/-- What device `p` hands the device `c` it signals: the pieces of its receive buffer that `c` writes. -/
def slab (p : Dev nD) (j : Fin 3) : sProp 𝕄 := bigSep Finset.univ fun h : Fin 4 => hasAny p (rP (j, h))
/-- What comes back when message `p` has left. -/
def sendPay (c : Dev nD) (p : Msg) : sProp 𝕄 := hasAny c (tP p)
/-- What message `p` brings. -/
def recvPay (c : Dev nD) (p : Msg) : sProp 𝕄 := has c (rP p) (tile m (unpeer c p.1) c p.2)

omit [FloatOps F] in
instance slab_storable (p : Dev nD) (j : Fin 3) : BI.Storable (upEmb : UEmb _ 𝕄) (slab (F := F) p j) := by unfold slab; infer_instance
omit [FloatOps F] in
instance sendPay_storable (c : Dev nD) (p : Msg) : BI.Storable (upEmb : UEmb _ 𝕄) (sendPay (F := F) c p) := by unfold sendPay; infer_instance
instance recvPay_storable (c : Dev nD) (p : Msg) : BI.Storable (upEmb : UEmb _ 𝕄) (recvPay m c p) := by unfold recvPay; infer_instance

/-- The schedule, one round per counter. -/
def sched : Rounds.Schedule (GSem nD τ sig) (Dev nD) 𝕄 where
  duties g r := if r = 0 ∧ g.1.2 = .tc then
      (match g.2 with
      | .reg _ => Finset.univ.erase g.1.1
      | .dma s => if 8 ≤ s.val then {if s.val < 20 then g.1.1 else unpeer g.1.1 (msgAt (s.val - 20)).1} else ∅)
    else ∅
  unitless _ := False
  amount g _ _ := match g.2 with
    | .reg _ => 1
    | .dma _ => N
  payload g _ d := match g.2 with
    | .reg _ => slab d (idx g.1.1 d)
    | .dma s => if s.val < 20 then sendPay g.1.1 (msgAt (s.val - 8)) else recvPay m g.1.1 (msgAt (s.val - 20))
  amount_pos g _ _ _ := by
    rcases g with ⟨t, s | s⟩
    · exact Nat.one_pos
    · exact N_pos

instance sched_payload_storable (g : GSem nD τ sig) (r : ℕ) (d : Dev nD) :
    BI.Storable (upEmb : UEmb _ 𝕄) ((sched m).payload g r d) := by
  rcases g with ⟨t, s | s⟩
  · show BI.Storable upEmb (slab d (idx t.1 d)); infer_instance
  · show BI.Storable upEmb (if s.val < 20 then sendPay t.1 (msgAt (s.val - 8)) else recvPay m t.1 (msgAt (s.val - 20)))
    split <;> infer_instance

section Tables
variable (c : Dev nD) (p : Msg)

theorem duties_bar : (sched m).duties (barCell c) 0 = Finset.univ.erase c := by
  dsimp only [sched]; exact if_pos ⟨rfl, rfl⟩
theorem duties_send : (sched m).duties (sendCell c p) 0 = {c} := by
  dsimp only [sched]; rw [if_pos ⟨rfl, rfl⟩, if_pos (sendS_ge p), if_pos (sendS_lt p)]
theorem duties_recv : (sched m).duties (recvCell c p) 0 = {unpeer c p.1} := by
  dsimp only [sched]
  rw [if_pos ⟨rfl, rfl⟩, if_pos (le_trans (by decide) (recvS_ge p)), if_neg (recvS_not_lt p), msgAt_recv]
theorem duties_later (g : GSem nD τ sig) : ∀ r, 1 ≤ r → (sched m).duties g r = ∅ :=
  fun r hr => if_neg fun h => by omega

theorem amount_bar (d : Dev nD) : (sched m).amount (barCell c) 0 d = 1 := rfl
theorem amount_send (d : Dev nD) : (sched m).amount (sendCell c p) 0 d = N := rfl
theorem amount_recv (d : Dev nD) : (sched m).amount (recvCell c p) 0 d = N := rfl

theorem expect_bar : (sched m).expect (barCell c) 0 = 3 := by
  unfold Schedule.expect Schedule.amountOf
  rw [duties_bar, Finset.sum_congr rfl fun d _ => amount_bar m c d, Finset.sum_const, Finset.card_erase_of_mem (Finset.mem_univ _),
    Finset.card_univ, Fintype.card_fin]
  rfl
theorem expect_send : (sched m).expect (sendCell c p) 0 = N := by
  unfold Schedule.expect Schedule.amountOf; rw [duties_send, Finset.sum_singleton, amount_send]
theorem expect_recv : (sched m).expect (recvCell c p) 0 = N := by
  unfold Schedule.expect Schedule.amountOf; rw [duties_recv, Finset.sum_singleton, amount_recv]

theorem payload_bar (d : Dev nD) : (sched m).payload (barCell c) 0 d = slab d (idx c d) := rfl
theorem payload_send (d : Dev nD) : (sched m).payload (sendCell c p) 0 d = sendPay c p := by
  dsimp only [sched]; rw [if_pos (sendS_lt p), msgAt_send]
theorem payload_recv (d : Dev nD) : (sched m).payload (recvCell c p) 0 d = recvPay m c p := by
  dsimp only [sched]; rw [if_neg (recvS_not_lt p), msgAt_recv]

/-- What the barrier wait brings: of each partner, the pieces of its receive buffer that `c` writes. -/
theorem rest_bar : bigSep ((sched m).duties (barCell c) 0 \ ∅) (fun d => (sched m).payload (barCell c) 0 d)
    = (bigSep Finset.univ fun j : Fin 3 => slab (peer c j) j : sProp 𝕄) := by
  rw [Finset.sdiff_empty, duties_bar, others_peer, bigSep_map]
  exact bigSep_congr fun j _ => by
    show slab (peer c j) (idx c (peer c j)) = _
    rw [idx_peer]
theorem rest_send : bigSep ((sched m).duties (sendCell c p) 0 \ ∅) (fun d => (sched m).payload (sendCell c p) 0 d) = sendPay c p := by
  rw [Finset.sdiff_empty, duties_send, bigSep_singleton, payload_send]
theorem rest_recv : bigSep ((sched m).duties (recvCell c p) 0 \ ∅) (fun d => (sched m).payload (recvCell c p) 0 d) = recvPay m c p := by
  rw [Finset.sdiff_empty, duties_recv, bigSep_singleton, payload_recv]

end Tables

/-! ## What a device owes -/

/-- The messages in the order they are sent. -/
abbrev sendOrder : List Msg := [(1, 0), (1, 1), (1, 2), (1, 3), (0, 0), (0, 1), (0, 2), (0, 3), (2, 0), (2, 1), (2, 2), (2, 3)]

/-- What device `c` owes while the messages `l` are still to be sent: their arrivals. -/
def oweSend (c : Dev nD) : List Msg → CellTallies nD τ sig Unit
  | [] => 0
  | p :: l => oweSend c l + tallyAt (recvCell (peer c p.1) p) () N
/-- What device `c` owes while the devices `l` are still to be signalled: their units, and every message. -/
def oweBar (c : Dev nD) : List (Dev nD) → CellTallies nD τ sig Unit
  | [] => oweSend c sendOrder
  | t :: l => if t = c then oweBar c l else oweBar c l + tallyAt (barCell t) () 1
/-- What device `c` owes at the start. -/
def O₀ (c : Dev nD) : CellTallies nD τ sig Unit := oweBar c [0, 1, 2, 3]

/-- The levels: the barrier below the arrivals, everything else below both. -/
def L (g : GSem nD τ sig) : Finset Unit := if g.1.2 = .tc then {()} else ∅
def lv (g : GSem nD τ sig) (_ : Unit) : ℕ := match g.2 with
  | .reg _ => 1
  | .dma s => if s.val < 20 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (p : Msg) (u : Unit) : lv (recvCell c p) u = 2 := if_neg (recvS_not_lt p)

theorem oweSend_pos {c : Dev nD} {l : List Msg} {g : GSem nD τ sig} {u : Unit} (h : 0 < oweSend c l g u) :
    ∃ p ∈ l, g = recvCell (peer c p.1) p := by
  induction l with
  | nil => exact absurd h (Nat.lt_irrefl 0)
  | cons p l ih =>
    unfold oweSend at h
    rw [Pi.add_apply, Finsupp.add_apply, tallyAt_apply] at h
    by_cases hg : g = recvCell (peer c p.1) p ∧ u = ()
    · exact ⟨p, List.mem_cons_self, hg.1⟩
    · rw [if_neg hg, Nat.add_zero] at h
      obtain ⟨q, hq, hgq⟩ := ih h
      exact ⟨q, List.mem_cons_of_mem _ hq, hgq⟩

theorem oweBar_pos {c : Dev nD} {l : List (Dev nD)} {g : GSem nD τ sig} {u : Unit} (h : 0 < oweBar c l g u) :
    (∃ p, g = recvCell (peer c p.1) p) ∨ ∃ t, g = barCell t := by
  induction l with
  | nil => obtain ⟨p, _, hp⟩ := oweSend_pos h; exact .inl ⟨p, hp⟩
  | cons t l ih =>
    unfold oweBar at h
    split at h
    · exact ih h
    · rw [Pi.add_apply, Finsupp.add_apply, tallyAt_apply] at h
      by_cases hg : g = barCell t ∧ u = ()
      · exact .inr ⟨t, hg.1⟩
      · rw [if_neg hg, Nat.add_zero] at h
        exact ih h

/-- A counter below the arrivals may be waited for while messages are still to be sent. -/
theorem mayWait_send (c : Dev nD) (sm : SemLoc sig) (l : List Msg) (h : lv ((c : Thread nD τ), sm) () ≤ 1) :
    (levAts L lv : sProp 𝕄) ⊢ MayWait (c : Thread nD τ) sm () (oweSend c l) :=
  MayOwe.of_cut (L := L) (lev := lv) 1 (fun p hp => by rw [Finset.mem_singleton.mp hp, L_tc]; exact Finset.mem_singleton_self _)
    (fun g u hg => by
      obtain ⟨p, _, rfl⟩ := oweSend_pos hg
      rw [L_tc]; exact Finset.mem_singleton_self _)
    (fun p hp => by rw [Finset.mem_singleton.mp hp]; exact h)
    (fun g u hg => by
      obtain ⟨p, _, rfl⟩ := oweSend_pos hg
      rw [lv_recv]; decide)

/-- The staging counters may be waited for at the start, and at the end, when nothing is owed. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweBar_pos hg with ⟨p, rfl⟩ | ⟨t, rfl⟩ <;> exact Finset.mem_singleton_self _)
      (fun p hp => by rw [Finset.mem_singleton.mp hp]; exact le_of_eq (if_pos hq))
      (fun g u hg => by
        rcases oweBar_pos hg with ⟨p, rfl⟩ | ⟨t, rfl⟩
        · rw [lv_recv]; decide
        · exact Nat.one_pos)
  · rw [MayWait_zero]; iintro -; iempintro

/-! ## The invariants and the marks every device holds of every counter -/

/-- A counter of the exchange: a device's barrier, one of its sends, one of its arrivals. -/
abbrev CI : Type := Unit ⊕ (Msg ⊕ Msg)
abbrev csem : CI → SemLoc sig
  | .inl _ => .reg barS
  | .inr (.inl p) => .dma (sendS p)
  | .inr (.inr p) => .dma (recvS p)
abbrev kcell (ck : Dev nD × CI) : GSem nD τ sig := ((ck.1 : Thread nD τ), csem ck.2)

abbrev iBar (c : Dev nD) : Dev nD × CI := (c, .inl ())
abbrev iSend (c : Dev nD) (p : Msg) : Dev nD × CI := (c, .inr (.inl p))
abbrev iRecv (c : Dev nD) (p : Msg) : Dev nD × CI := (c, .inr (.inr p))

/-- The counters' invariants, that every counter is at its round, and the levels. -/
def records (K : Dev nD × CI → ℕ) : sProp 𝕄 :=
  iprop((bigSep Finset.univ fun ck : Dev nD × CI => cellInv ER (sched m) (K ck) (kcell ck))
    ∗ (bigSep Finset.univ fun ck : Dev nD × CI => reached ER (kcell ck) 0) ∗ levAts L lv)

instance records_persistent (K : Dev nD × CI → ℕ) : BI.Persistent (records m K) := by unfold records; infer_instance

theorem records_inv (K : Dev nD × CI → ℕ) (ck : Dev nD × CI) : records m K ⊢ cellInv ER (sched m) (K ck) (kcell ck) := by
  unfold records; iintro ⟨H, -, -⟩
  iapply (show (bigSep Finset.univ fun ck : Dev nD × CI => (cellInv ER (sched m) (K ck) (kcell ck) : sProp 𝕄)) ⊢ cellInv ER (sched m) (K ck) (kcell ck)
    from bigSep_elim (Finset.mem_univ ck))
  iexact H
theorem records_reached (K : Dev nD × CI → ℕ) (ck : Dev nD × CI) : records m K ⊢ reached ER (kcell ck) 0 := by
  unfold records; iintro ⟨-, H, -⟩
  iapply (show (bigSep Finset.univ fun ck : Dev nD × CI => (reached ER (kcell ck) 0 : sProp 𝕄)) ⊢ reached ER (kcell ck) 0
    from bigSep_elim (Finset.mem_univ ck))
  iexact H
theorem records_levels (K : Dev nD × CI → ℕ) : records m K ⊢ levAts L lv := by
  unfold records; iintro ⟨-, -, H⟩; iexact H

end Cert.Mesh

end
-- ==== Proof.Pieces.lean ====
/-
# The pieces of the buffers

The pieces of a buffer are disjoint and cover it, so the buffer owned whole is its pieces owned one by one. A load or a store
that stays in a piece needs that piece alone; the load of a slot of the weights' buffer needs the slot's two halves.
-/
module

public import proofs.«01_k».proof.Proof.Protocol

@[expose] public section

noncomputable section

namespace Cert.Mesh

open Cert.KernelIdeal Cert.KernelIdeal.Gen

open Idealize.ShloMosaic
open Idealize.ShloMosaic.TcCoe
open Idealize.ShloMosaic.ValueIdx (ix2 eq_ix2 ix3 eq_ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- Running a program on device `c` to the postcondition `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Disjoint and covering -/

theorem rectP_disjoint (p q : Msg) (h : p ≠ q) : Disjoint (rectP p).set (rectP q).set := by
  by_cases h0 : p.1 = q.1
  · have h1 : p.2.val ≠ q.2.val := fun e => h (Prod.ext h0 (Fin.ext e))
    exact Rect.unit_disjoint 1 (by show 256 * p.2.val + 256 ≤ 256 * q.2.val ∨ 256 * q.2.val + 256 ≤ 256 * p.2.val; omega)
  · have h1 : p.1.val ≠ q.1.val := fun e => h0 (Fin.ext e)
    exact Rect.unit_disjoint 0 (by show p.1.val + 1 ≤ q.1.val ∨ q.1.val + 1 ≤ p.1.val; omega)

theorem rectP_cover : (Finset.univ : Finset Msg).biUnion (fun p => (rectP p).set) = Finset.univ := by
  refine Finset.eq_univ_iff_forall.2 fun i => Finset.mem_biUnion.2 ?_
  have h0 : (i 0).val < 3 := (i 0).isLt
  have h1 : (i 1).val < 1024 := (i 1).isLt
  have h2 : (i 2).val < 512 := (i 2).isLt
  refine ⟨(⟨(i 0).val, h0⟩, ⟨(i 1).val / 256, by omega⟩), Finset.mem_univ _, Rect.mem_set_unit.2 fun a => ?_⟩
  match a with
  | ⟨0, _⟩ => exact ⟨le_refl _, by show (i 0).val < (i 0).val + 1; omega⟩
  | ⟨1, _⟩ => exact ⟨by show 256 * ((i 1).val / 256) ≤ (i 1).val; omega, by show (i 1).val < 256 * ((i 1).val / 256) + 256; omega⟩
  | ⟨2, _⟩ => exact ⟨Nat.zero_le _, by show (i 2).val < 0 + 512; omega⟩

theorem rectW_disjoint (p q : Fin 3 × Fin 2) (h : p ≠ q) : Disjoint (rectW p).set (rectW q).set := by
  by_cases h0 : p.1 = q.1
  · have h1 : p.2.val ≠ q.2.val := fun e => h (Prod.ext h0 (Fin.ext e))
    exact Rect.unit_disjoint 1 (by show 2048 * p.2.val + 2048 ≤ 2048 * q.2.val ∨ 2048 * q.2.val + 2048 ≤ 2048 * p.2.val; omega)
  · have h1 : p.1.val ≠ q.1.val := fun e => h0 (Fin.ext e)
    exact Rect.unit_disjoint 0 (by show p.1.val + 1 ≤ q.1.val ∨ q.1.val + 1 ≤ p.1.val; omega)

theorem rectW_mem (s : Fin 3) (i : S3x4096x512.Idx) (hs : (i 0).val = s.val) :
    ∃ b : Fin 2, i ∈ (rectW (s, b)).set := by
  have h1 : (i 1).val < 4096 := (i 1).isLt
  have h2 : (i 2).val < 512 := (i 2).isLt
  refine ⟨⟨(i 1).val / 2048, by omega⟩, Rect.mem_set_unit.2 fun a => ?_⟩
  match a with
  | ⟨0, _⟩ => exact ⟨by show s.val ≤ (i 0).val; omega, by show (i 0).val < s.val + 1; omega⟩
  | ⟨1, _⟩ => exact ⟨by show 2048 * ((i 1).val / 2048) ≤ (i 1).val; omega, by show (i 1).val < 2048 * ((i 1).val / 2048) + 2048; omega⟩
  | ⟨2, _⟩ => exact ⟨Nat.zero_le _, by show (i 2).val < 0 + 512; omega⟩

theorem rectW_cover : (Finset.univ : Finset (Fin 3 × Fin 2)).biUnion (fun p => (rectW p).set) = Finset.univ := by
  refine Finset.eq_univ_iff_forall.2 fun i => Finset.mem_biUnion.2 ?_
  obtain ⟨b, hb⟩ := rectW_mem ⟨(i 0).val, (i 0).isLt⟩ i rfl
  exact ⟨_, Finset.mem_univ _, hb⟩

theorem rectO_disjoint (p q : Dev nD × Fin 4) (h : p ≠ q) : Disjoint (rectO p).set (rectO q).set := by
  have hp := p.2.isLt
  have hq := q.2.isLt
  have h1 : 1024 * p.1.val + 256 * p.2.val ≠ 1024 * q.1.val + 256 * q.2.val := fun e =>
    h (Prod.ext (Fin.ext (by omega)) (Fin.ext (by omega)))
  exact Rect.unit_disjoint 0 (by
    show 1024 * p.1.val + 256 * p.2.val + 256 ≤ 1024 * q.1.val + 256 * q.2.val
      ∨ 1024 * q.1.val + 256 * q.2.val + 256 ≤ 1024 * p.1.val + 256 * p.2.val
    omega)

theorem rectO_cover : (Finset.univ : Finset (Dev nD × Fin 4)).biUnion (fun p => (rectO p).set) = Finset.univ := by
  refine Finset.eq_univ_iff_forall.2 fun i => Finset.mem_biUnion.2 ?_
  have h0 : (i 0).val < 4096 := (i 0).isLt
  have h1 : (i 1).val < 512 := (i 1).isLt
  refine ⟨(⟨(i 0).val / 1024, by show _ < 4; omega⟩, ⟨(i 0).val % 1024 / 256, by omega⟩), Finset.mem_univ _, Rect.mem_set_unit.2 fun a => ?_⟩
  match a with
  | ⟨0, _⟩ =>
    exact ⟨by show 1024 * ((i 0).val / 1024) + 256 * ((i 0).val % 1024 / 256) ≤ (i 0).val; omega,
      by show (i 0).val < 1024 * ((i 0).val / 1024) + 256 * ((i 0).val % 1024 / 256) + 256; omega⟩
  | ⟨1, _⟩ => exact ⟨Nat.zero_le _, by show (i 1).val < 0 + 512; omega⟩

/-! ## A buffer and its pieces -/

theorem any_intro {sp : Space} {s : Shape} {e : EltTy} (c : Dev nD) (M : Memref sig .tc sp s e) (X : s.Idx → Elt F e) :
    has c M X ⊢ hasAny c M := by
  iintro H; iexists X; iexact H

section Whole

variable {T : Type} [Fintype T] [DecidableEq T] {s : Shape} {e : EltTy} (c : Dev nD) (M : Memref sig .tc .vmem s e) (r : T → Rect s)
  (hr : ∀ t a, (r t).stride a = 1) (hd : ∀ t t', t ≠ t' → Disjoint (r t).set (r t').set)
  (hcov : (Finset.univ : Finset T).biUnion (fun t => (r t).set) = Finset.univ)

include hd hcov in
/-- A buffer owned is its pieces owned, -/
theorem pieces_of_whole : hasAny (F := F) c M ⊢ bigSep Finset.univ fun t => hasAny c (M.slice (r t) (hr t)) := by
  iintro ⟨%X, H⟩
  ihave H' := (owns_rects (c : Thread nD τ) M fullShare r hr hd hcov X) $$ H
  iapply (show (bigSep Finset.univ fun t => has (F := F) c (M.slice (r t) (hr t)) (fun j => X ((r t).emb j)))
      ⊢ bigSep Finset.univ fun t => hasAny c (M.slice (r t) (hr t)) from bigSep_mono fun t _ => any_intro c _ _)
  iexact H'

include hd hcov in
/-- and its pieces owned, of one contents, are the buffer owned at these contents. -/
theorem whole_of_pieces (X : s.Idx → Elt F e) :
    (bigSep Finset.univ fun t => has (F := F) c (M.slice (r t) (hr t)) (fun j => X ((r t).emb j))) ⊢ has c M X :=
  owns_of_rects (c : Thread nD τ) M fullShare r hr hd hcov X

/-- Any contents of the pieces are the parts of contents of the whole. -/
theorem glue (Y : (t : T) → (r t).shape.Idx → Elt F e) (hd : ∀ t t', t ≠ t' → Disjoint (r t).set (r t').set) :
    ∃ X : s.Idx → Elt F e, ∀ t j, X ((r t).emb j) = Y t j := by
  classical
  refine ⟨fun i => if h : ∃ t j, (r t).emb j = i then Y h.choose h.choose_spec.choose else Classical.arbitrary _, fun t j => ?_⟩
  have h : ∃ t' j', (r t').emb j' = (r t).emb j := ⟨t, j, rfl⟩
  show (if h : ∃ t' j', (r t').emb j' = (r t).emb j then Y h.choose h.choose_spec.choose else Classical.arbitrary _) = Y t j
  rw [dif_pos h]
  have hs := h.choose_spec.choose_spec
  have ht : h.choose = t := by
    by_contra hne
    have hx : (r t).emb j ∈ (r t).set := by rw [← Rect.map_emb_univ]; exact Finset.mem_map_of_mem _ (Finset.mem_univ _)
    have hy : (r t).emb j ∈ (r h.choose).set := by
      have h' : (r h.choose).emb h.choose_spec.choose ∈ (r h.choose).set := by
        rw [← Rect.map_emb_univ]; exact Finset.mem_map_of_mem _ (Finset.mem_univ _)
      exact (congrArg (· ∈ (r h.choose).set) hs).mp h'
    exact Finset.disjoint_left.1 (hd _ _ hne) hy hx
  have key : ∀ (t' : T) (j' : (r t').shape.Idx), t' = t → (r t').emb j' = (r t).emb j → Y t' j' = Y t j := by
    rintro t' j' rfl hj
    rw [(r t').emb.injective hj]
  exact key _ _ ht hs

include hd hcov in
/-- The pieces owned, whatever they hold, are the buffer owned. -/
theorem whole_of_any : (bigSep Finset.univ fun t => hasAny (F := F) c (M.slice (r t) (hr t))) ⊢ hasAny c M := by
  refine BIBase.Entails.trans (bigSep_exists_pi _ _) ?_
  iintro ⟨%Y, H⟩
  obtain ⟨X, hX⟩ := glue r Y hd
  iexists X
  iapply (whole_of_pieces c M r hr hd hcov X)
  rw [show (fun t => has (F := F) c (M.slice (r t) (hr t)) (fun j => X ((r t).emb j))) = fun t => has c (M.slice (r t) (hr t)) (Y t) from
    funext fun t => by rw [show (fun j => X ((r t).emb j)) = Y t from funext fun j => hX t j]]
  iexact H

end Whole

/-- A view owned is its elements held at contents it reads so. -/
theorem has_elim {sp : Space} {s : Shape} {e : EltTy} (c : Dev nD) (M : Memref sig .tc sp s e) (X : s.Idx → Elt F e) :
    has c M X ⊢ iprop(∃ f, ⌜M.view.read (Elt F) f = X⌝ ∗ (M.view.loc (c : Thread nD τ) ↦[M.view.set]{fullShare} f)) := .rfl
theorem has_intro {sp : Space} {s : Shape} {e : EltTy} (c : Dev nD) (M : Memref sig .tc sp s e) {X : s.Idx → Elt F e}
    (f : Buf (Elt F) (M.view.loc (c : Thread nD τ))) (hf : M.view.read (Elt F) f = X) :
    (M.view.loc (c : Thread nD τ) ↦[M.view.set]{fullShare} f) ⊢ has c M X := by
  subst hf; exact owns_intro (c : Thread nD τ) M fullShare f

theorem has_whole (c : Dev nD) (b : Ref sig .tc) (X : b.ty.Contents (Elt F)) :
    (has (F := F) c (Memref.whole b) X) = iprop(∃ f : Buf (Elt F) ((c : Thread nD τ).loc b), ⌜f = X⌝ ∗ (((c : Thread nD τ).loc b) ↦{fullShare} f)) := by
  unfold has owns; simp only [Memref.view_whole, View.read_whole, View.set_whole]
/-- A whole buffer owned is its points-to. -/
theorem any_of_pts (c : Dev nD) (b : Ref sig .tc) :
    iprop(∃ f : Buf (Elt F) ((c : Thread nD τ).loc b), ((c : Thread nD τ).loc b) ↦{fullShare} f) ⊢ (hasAny (F := F) c (Memref.whole b)) := by
  unfold hasAny
  simp only [has_whole]
  iintro ⟨%f, H⟩; iexists f; iexists f; isplitr; · (ipureintro; rfl)
  iexact H
theorem pts_of_any (c : Dev nD) (b : Ref sig .tc) :
    (hasAny (F := F) c (Memref.whole b)) ⊢ iprop(∃ f : Buf (Elt F) ((c : Thread nD τ).loc b), ((c : Thread nD τ).loc b) ↦{fullShare} f) := by
  unfold hasAny
  simp only [has_whole]
  iintro ⟨%X, %f, %hf, H⟩; iexists f; iexact H

/-! ## Loads and stores that stay in a piece -/

section Access

variable {s : Shape} {e : EltTy} (c : Dev nD) (M : Memref sig .tc .vmem s e)

/-- A load of a piece owned gives its contents. -/
theorem load_piece {α : Type} {Q : α → sProp 𝕄} {off off' size : Fin s.rank → ℕ} {inb : ∀ a, off a + size a ≤ s.size a} {inb' : ∀ a, off' a + size a ≤ s.size a}
    (hoff : off = off') {hl : M.view.LoadsAt (Rect.unit off size inb).toLoadRect}
    {k : ((Rect.unit off' size inb').shape.Idx → Elt F e) → Prog (TpuEff nD τ sig (Elt F) Λ₀ .tc) α} {X : (Rect.unit off' size inb').shape.Idx → Elt F e} :
    has c (M.slice (Rect.unit off' size inb') (fun _ => rfl)) X
      ⊢ iprop((has c (M.slice (Rect.unit off' size inb') (fun _ => rfl)) X -∗ run c (k X) Q)
          -∗ run c (.op (.load M (Rect.unit off size inb).toLoadRect hl) k) Q) := by
  subst hoff
  iintro H Hk
  ihave H' := (has_elim c (M.slice (Rect.unit off size inb') (fun _ => rfl)) X) $$ H
  icases H' with ⟨%f, %hf, H⟩
  iapply (wp_load 𝒱₀ (c : Thread nD τ) none Set.univ (m := M) (r := (Rect.unit off size inb).toLoadRect)
    (S := (M.view.slice (Rect.unit off size inb)).set) (f := f) (le_of_eq (View.set_slice M.view (Rect.unit off size inb)).symm)) $$ H
  iintro H
  rw [show M.view.readAt (Elt F) (Rect.unit off size inb).toLoadRect f = X from hf]
  iapply Hk
  iapply (has_intro c (M.slice (Rect.unit off size inb') (fun _ => rfl)) f hf)
  iexact H

/-- A store over a piece owned leaves it at what is stored. -/
theorem store_piece {α : Type} {Q : α → sProp 𝕄} {off off' size : Fin s.rank → ℕ} {inb : ∀ a, off a + size a ≤ s.size a} {inb' : ∀ a, off' a + size a ≤ s.size a}
    (hoff : off = off') {w : (Rect.unit off' size inb').shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    hasAny c (M.slice (Rect.unit off' size inb') (fun _ => rfl))
      ⊢ iprop((has c (M.slice (Rect.unit off' size inb') (fun _ => rfl)) w -∗ run c (k ⟨⟩) Q)
          -∗ run c (.op (.store M (Rect.unit off size inb) w Finset.univ hx hm) k) Q) := by
  subst hoff
  iintro ⟨%X, H⟩ Hk
  ihave H' := (has_elim c (M.slice (Rect.unit off size inb') (fun _ => rfl)) X) $$ H
  icases H' with ⟨%f, %hf, H⟩
  iapply (wp_store 𝒱₀ (c : Thread nD τ) none Set.univ (m := M) (r := Rect.unit off size inb) (Mk := Finset.univ)
    (S := (M.access (Rect.unit off size inb)).set) (f := f) (subset_refl _)) $$ H
  iintro H
  iapply Hk
  iapply (has_intro c (M.slice (Rect.unit off size inb') (fun _ => rfl)) ((M.access (Rect.unit off size inb)).write (Elt F) f w Finset.univ)
    (View.read_write_univ (v := M.access (Rect.unit off size inb)) f w))
  iexact H

/-- The same, over a piece whose contents are known. -/
theorem store_over {α : Type} {Q : α → sProp 𝕄} {off off' size : Fin s.rank → ℕ} {inb : ∀ a, off a + size a ≤ s.size a} {inb' : ∀ a, off' a + size a ≤ s.size a}
    (hoff : off = off') {w X : (Rect.unit off' size inb').shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    has c (M.slice (Rect.unit off' size inb') (fun _ => rfl)) X
      ⊢ iprop((has c (M.slice (Rect.unit off' size inb') (fun _ => rfl)) w -∗ run c (k ⟨⟩) Q)
          -∗ run c (.op (.store M (Rect.unit off size inb) w Finset.univ hx hm) k) Q) :=
  (any_intro c _ X).trans (store_piece c M hoff)

end Access

/-! ## A slot of the weights' buffer -/

variable (m : (ℓ : Loc nD τ sig) → Buf (Elt F) ℓ)

/-- Column block `e` of the weights, laid in every slot. -/
def wslots (c e : Dev nD) : S3x4096x512.Idx → Elt F .f32 := fun i => wcol m c e (ix3 (0 : Fin 1) (i 1) (i 2))

/-- Half of a slot of the weights' buffer. -/
abbrev bP (p : Fin 3 × Fin 2) : Memref sig .tc .vmem S1x2048x512 .f32 := bM.slice (rectW p) (fun _ => rfl)
/-- Half `b` of slot `s` holding its half of column block `e`. -/
abbrev halfAt (c e : Dev nD) (p : Fin 3 × Fin 2) : sProp 𝕄 := has c (bP p) (fun j => wslots m c e ((rectW p).emb j))

theorem slot_half (s : Fin 3) {x : S3x4096x512.Idx} (hx : x ∈ (rectS s).set) : ∃ b : Fin 2, x ∈ (rectW (s, b)).set :=
  rectW_mem s x (by
    have h0 := Rect.mem_set_unit.1 hx 0
    have h1 : s.val ≤ (x 0).val := h0.1
    have h2 : (x 0).val < s.val + 1 := h0.2
    omega)
theorem mem_halves (s : Fin 3) (b : Fin 2) : ((s, b) : Fin 3 × Fin 2) ∈ (insert ((s, 0) : Fin 3 × Fin 2) {(s, 1)} : Finset (Fin 3 × Fin 2)) := by
  revert s b; decide
theorem halves_ne (s : Fin 3) : ((s, 0) : Fin 3 × Fin 2) ≠ (s, 1) := fun h => absurd (congrArg Prod.snd h) (show ¬ (0 : Fin 2) = 1 by decide)

/-- A slot's elements held at contents that read as column block `e` are its halves holding it. -/
theorem halves_of_slot (c e : Dev nD) (s : Fin 3) (g : (bM : Memref sig .tc .vmem S3x4096x512 .f32).view.ty.Contents (Elt F))
    (hg : ∀ t ∈ (insert ((s, 0) : Fin 3 × Fin 2) {(s, 1)} : Finset (Fin 3 × Fin 2)), ∀ j,
      (bM : Memref sig .tc .vmem S3x4096x512 .f32).view.read (Elt F) g ((rectW t).emb j) = wslots m c e ((rectW t).emb j)) :
    ((bM : Memref sig .tc .vmem S3x4096x512 .f32).view.loc (c : Thread nD τ)
        ↦[(insert ((s, 0) : Fin 3 × Fin 2) {(s, 1)} : Finset (Fin 3 × Fin 2)).biUnion fun t => ((bM : Memref sig .tc .vmem S3x4096x512 .f32).view.slice (rectW t)).set]{fullShare} g)
      ⊢ iprop(halfAt m c e (s, 0) ∗ halfAt m c e (s, 1)) := by
  rw [Finset.biUnion_insert, Finset.singleton_biUnion]
  have hdv : Disjoint ((bM : Memref sig .tc .vmem S3x4096x512 .f32).view.slice (rectW (s, 0))).set ((bM : Memref sig .tc .vmem S3x4096x512 .f32).view.slice (rectW (s, 1))).set := by
    rw [View.set_slice, View.set_slice]; exact (Finset.disjoint_map _).mpr (rectW_disjoint _ _ (halves_ne s))
  iintro H
  ihave H' := (pointsTo_union hdv).1 $$ H
  icases H' with ⟨H0, H1⟩
  isplitl [H0]
  · iapply (has_intro c (bP (s, 0)) g (funext fun j => hg _ (mem_halves s 0) j)); iexact H0
  · iapply (has_intro c (bP (s, 1)) g (funext fun j => hg _ (mem_halves s 1) j)); iexact H1

/-- A slot's halves holding column block `e` are its elements held at contents that read so. -/
theorem slot_of_halves (c e : Dev nD) (s : Fin 3) :
    iprop(halfAt m c e (s, 0) ∗ halfAt m c e (s, 1)) ⊢
      iprop(∃ g, ⌜∀ t ∈ (insert ((s, 0) : Fin 3 × Fin 2) {(s, 1)} : Finset (Fin 3 × Fin 2)), ∀ j,
        (bM : Memref sig .tc .vmem S3x4096x512 .f32).view.read (Elt F) g ((rectW t).emb j) = wslots m c e ((rectW t).emb j)⌝
      ∗ ((bM : Memref sig .tc .vmem S3x4096x512 .f32).view.loc (c : Thread nD τ)
        ↦[(insert ((s, 0) : Fin 3 × Fin 2) {(s, 1)} : Finset (Fin 3 × Fin 2)).biUnion fun t => ((bM : Memref sig .tc .vmem S3x4096x512 .f32).view.slice (rectW t)).set]{fullShare} g)) := by
  have h := owns_rects_join (Ix := Unit) (Name := ℕ) (U := UU) (Lvl := ℕ) (c : Thread nD τ) bM fullShare rectW (fun _ _ => rfl) rectW_disjoint
    (wslots m c e) (insert ((s, 0) : Fin 3 × Fin 2) {(s, 1)})
  rw [bigSep_insert (by rw [Finset.mem_singleton]; exact halves_ne s), bigSep_singleton] at h
  exact h

/-- A load of a slot whose halves hold column block `e` gives this block. -/
theorem load_slot {α : Type} {Q : α → sProp 𝕄} (c e : Dev nD) (s : Fin 3) {off : Fin 3 → ℕ} {inb : ∀ a, off a + S1x4096x512.size a ≤ S3x4096x512.size a}
    (hoff : off = ![s.val, 0, 0]) {hl : (bM : Memref sig .tc .vmem S3x4096x512 .f32).view.LoadsAt (Rect.unit (s := S3x4096x512) off S1x4096x512.size inb).toLoadRect}
    {k : Vec F S1x4096x512 .f32 → Prog (TpuEff nD τ sig (Elt F) Λ₀ .tc) α} :
    halfAt m c e (s, 0) ⊢ iprop(halfAt m c e (s, 1) -∗ (halfAt m c e (s, 0) -∗ halfAt m c e (s, 1) -∗ run c (k (wcol m c e)) Q)
          -∗ run c (.op (.load bM (Rect.unit (s := S3x4096x512) off S1x4096x512.size inb).toLoadRect hl) k) Q) := by
  subst hoff
  iintro H0 H1 Hk
  ihave H := (slot_of_halves m c e s) $$ [H0 H1]
  · isplitl [H0]; · iexact H0
    iexact H1
  icases H with ⟨%g, %hg, H⟩
  have hsub : (bM : Memref sig .tc .vmem S3x4096x512 .f32).view.setOn (rectS s).set
      ⊆ (insert ((s, 0) : Fin 3 × Fin 2) {(s, 1)} : Finset (Fin 3 × Fin 2)).biUnion fun t => ((bM : Memref sig .tc .vmem S3x4096x512 .f32).view.slice (rectW t)).set := by
    intro i hi
    rw [View.setOn, Finset.mem_map] at hi
    obtain ⟨x, hx, rfl⟩ := hi
    obtain ⟨b, hb⟩ := slot_half s hx
    refine Finset.mem_biUnion.2 ⟨(s, b), mem_halves s b, ?_⟩
    rw [View.set_slice]; exact Finset.mem_map_of_mem _ hb
  iapply (wp_load 𝒱₀ (c : Thread nD τ) none Set.univ (m := bM) (r := (rectS s).toLoadRect) hsub) $$ H
  iintro H
  have hread : (bM : Memref sig .tc .vmem S3x4096x512 .f32).view.readAt (Elt F) (rectS s).toLoadRect g = wcol m c e := by
    funext j
    have hx : (rectS s).emb j ∈ (rectS s).set := by rw [← Rect.map_emb_univ]; exact Finset.mem_map_of_mem _ (Finset.mem_univ _)
    obtain ⟨b, hb⟩ := slot_half s hx
    obtain ⟨y, hy⟩ := (rectW (s, b)).exists_idx_of_mem hb
    have h := hg (s, b) (mem_halves s b) y
    rw [show (rectW (s, b)).emb y = (rectS s).emb j from hy] at h
    refine Eq.trans h ?_
    show wcol m c e (ix3 (0 : Fin 1) _ _) = wcol m c e j
    congr 1
    funext a
    match a with
    | ⟨0, _⟩ => exact Fin.ext (by have : (j 0).val < 1 := (j 0).isLt; show 0 = (j 0).val; omega)
    | ⟨1, _⟩ => exact Fin.ext (by show 0 + 1 * (j 1).val = (j 1).val; omega)
    | ⟨2, _⟩ => exact Fin.ext (by show 0 + 1 * (j 2).val = (j 2).val; omega)
  rw [show (bM : Memref sig .tc .vmem S3x4096x512 .f32).view.readAt (Elt F) (Rect.unit (s := S3x4096x512) ![s.val, 0, 0] S1x4096x512.size inb).toLoadRect g
    = wcol m c e from hread]
  ihave H' := (halves_of_slot m c e s g hg) $$ H
  icases H' with ⟨H0, H1⟩
  iapply Hk $$ H0 H1

end Cert.Mesh

end
-- ==== Proof.Steps.lean ====
/-
# The steps of the exchange

What each signal, wait and transfer of the kernel does: what a device must hold for it, and what it holds afterwards. Each is
stated once, for any device and any message.
-/
module

public import proofs.«01_k».proof.Proof.Pieces
public import Idealize.ShloMosaic.Lib.ShareLeaves

@[expose] public section

noncomputable section

namespace Cert.Mesh

open Cert.KernelIdeal Cert.KernelIdeal.Gen

open Idealize.ShloMosaic
open Idealize.ShloMosaic.TcCoe
open Idealize.ShloMosaic.ValueIdx (ix2 eq_ix2 ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)

variable {F : FTy → Type} [FloatOps F]

local notation "𝕄" => MT nD τ sig Unit (Elt F) ℕ UU ℕ

variable (m : (ℓ : Loc nD τ sig) → Buf (Elt F) ℓ)

/-! ## What a device holds of a message, before and after -/

/-- The device owes `O`. -/
def owing (c : Dev nD) (O : CellTallies nD τ sig Unit) : sProp 𝕄 := iprop(∃ W : Waits sig Unit, owes (c : Thread nD τ) O W)

/-- Message `p` may be made and sent: the right to report its leaving and its arrival, and its piece of the send buffer. -/
def Ready (c : Dev nD) (p : Msg) : sProp 𝕄 :=
  iprop((dutyTok ER (sendCell c p) 0 c ∗ dutyTok ER (recvCell (peer c p.1) p) 0 c ∗ atPos ER (sendCell c p) 0 ∅ 0) ∗ hasAny c (tP p))
/-- Message `p` is on its way. -/
def Sent (c : Dev nD) (p : Msg) : sProp 𝕄 :=
  iprop(cred (tallyAt (sendCell c p) () N) ∗ atPos ER (sendCell c p) 0 ∅ 0)
/-- Message `p` is to arrive. -/
def Due (c : Dev nD) (p : Msg) : sProp 𝕄 :=
  iprop(cred (tallyAt (recvCell c p) () N) ∗ atPos ER (recvCell c p) 0 ∅ 0)
/-- Message `p` has left: its piece of the send buffer, and its counter at zero. -/
def Left (c : Dev nD) (p : Msg) : sProp 𝕄 := iprop(hasAny c (tP p) ∗ semVal (sendCell c p) 0)
/-- The right to signal device `t`, with what is handed over. -/
def Greet (c t : Dev nD) : sProp 𝕄 :=
  if t = c then iprop(emp) else iprop(dutyTok ER (barCell t) 0 c ∗ slab c (idx t c))
/-- The barrier's three units are to arrive. -/
def Gate (c : Dev nD) : sProp 𝕄 :=
  iprop(cred (tallyAt (barCell c) () 3) ∗ atPos ER (barCell c) 0 ∅ 0)

/-! ## The barrier -/

/-- A guarded signal: device `t` is signalled unless it is the device itself. -/
theorem signal_step {α : Type} {Q : α → sProp 𝕄} (K : Dev nD × CI → ℕ) (c t : Dev nD) (l : List (Dev nD)) {C : Prop} [Decidable C]
    (hC : C ↔ t ≠ c) {n : C → Dev nD} (hn : ∀ h, n h = t)
    {k : Prog (TpuEff nD τ sig (Elt F) Λ₀ .tc) α} :
    records m K ⊢ iprop(Greet c t -∗ owing c (oweBar c (t :: l)) -∗ (owing c (oweBar c l) -∗ run c k Q)
      -∗ run c (dite C (fun h => .op (.semSignal (Dev.tc (n h)) barS (1#32 : BitVec 32).toInt) (fun _ => k)) (fun _ => k)) Q) := by
  rw [show (1#32 : BitVec 32).toInt = ((1 : ℕ) : ℤ) by decide]
  by_cases h : C
  · have ht := hC.1 h
    rw [dif_pos h, hn h, show oweBar c (t :: l) = oweBar c l + tallyAt (barCell t) () 1 from if_neg ht]
    unfold Greet owing
    rw [if_neg ht]
    iintro #HR ⟨Htok, Hslab⟩ ⟨%W, HO⟩ Hk
    ihave HI := (records_inv m K (iBar t)) $$ HR
    ihave Hre := (records_reached m K (iBar t)) $$ HR
    iapply (Rounds.wp_signal 𝒱₀ ER (sched m) (c : Thread nD τ) none (dst := (t : Thread nD τ)) (κ := K (iBar t)) (d := c)
      (by rw [duties_bar]; exact Finset.mem_erase.2 ⟨fun e => ht e.symm, Finset.mem_univ _⟩) (amount_bar m t c) () (oweBar c l) rfl) $$ [HI HO Htok Hslab Hre]
    · isplitl [HI]; · iexact HI
      isplitl [HO]; · iexact HO
      isplitl [Htok]; · iexact Htok
      isplitl [Hslab]; · iapply (Entails.of_eq (payload_bar m t c).symm); iexact Hslab
      iexact Hre
    iintro HO
    iapply Hk
    iexists W; iexact HO
  · have ht : t = c := by by_contra hne; exact h (hC.2 hne)
    rw [dif_neg h, show oweBar c (t :: l) = oweBar c l from if_pos ht]
    iintro #HR Hg HO Hk
    iclear Hg
    iapply Hk
    iexact HO

/-- A program and then the rest. -/
theorem then_step {α β : Type} {Q : α → sProp 𝕄} (c : Dev nD) (p : Prog (TpuEff nD τ sig (Elt F) Λ₀ .tc) β)
    (k : β → Prog (TpuEff nD τ sig (Elt F) Λ₀ .tc) α) : run c p (fun v => run c (k v) Q) ⊢ run c (p >>= k) Q :=
  Entails.of_eq (by unfold run; rw [wp_bind])

/-- The barrier wait: the pieces of the partners' receive buffers that the device writes. -/
theorem barrier_step {α : Type} {Q : α → sProp 𝕄} (K : Dev nD × CI → ℕ) (c : Dev nD)
    {k : PUnit → Prog (TpuEff nD τ sig (Elt F) Λ₀ .tc) α} :
    records m K ⊢ iprop(Gate c -∗ owing c (oweBar c [])
      -∗ ((bigSep Finset.univ fun j : Fin 3 => slab (peer c j) j) -∗ semVal (barCell c) 0 -∗ owing c (oweSend c sendOrder) -∗ run c (k ⟨⟩) Q)
      -∗ run c (.op (.semWait barS (3#32 : BitVec 32).toInt) k) Q) := by
  rw [show (3#32 : BitVec 32).toInt = ((3 : ℕ) : ℤ) by decide]
  iintro #HR Hg HO Hk
  unfold Gate owing oweBar
  icases Hg with ⟨Hc, Hat⟩
  icases HO with ⟨%W, HO⟩
  ihave #HI := (records_inv m K (iBar c)) $$ HR
  ihave Hl := (records_levels m K) $$ HR
  iapply (Rounds.wp_wait_rest_token 𝒱₀ ER (sched m) (c : Thread nD τ) none (κ := K (iBar c))
    (wpE_semWait_eq 𝒱₀ (c : Thread nD τ) none Set.univ) (Set.mem_univ _) () (O := oweSend c sendOrder) (W := W) (R := 0) (m := 0) (T := ∅)
    (by rw [Nat.zero_add, expect_bar])) $$ [Hc HO Hat Hl]
  · isplitr; · iexact HI
    isplitl [Hc]; · iexact Hc
    isplitl [HO]; · iexact HO
    isplitl [Hl]; · iapply (mayWait_send c (.reg barS) sendOrder (le_refl _)); iexact Hl
    iexact Hat
  iintro ⟨HO, Hat, -, Hpay⟩
  ihave Hp := (Entails.of_eq (rest_bar m c)) $$ Hpay
  imod (Rounds.cell_close ER (sched m) (Set.mem_univ (K (iBar c))) (fun h => h) (R := 0 + 1) (duties_later m (barCell c))) $$ [Hat] with Hz
  · isplitr; · iexact HI
    iexact Hat
  iapply Hk $$ Hp Hz
  iexists (insert (SemLoc.reg barS, ()) W); iexact HO

/-! ## Reading through a squeezed view -/

/-- What is read of a view after all of a reshaped view was written: what was written, reshaped back. -/
theorem read_write_reshape {s s' : Shape} {e : EltTy} {sp : Space} (v : View sig .tc sp s e) (h : s'.numel = s.numel)
    (g : v.ty.Contents (Elt F)) (w : s'.Idx → Elt F e) (X : s.Idx → Elt F e) (hw : ∀ k, w k = X (Shape.reshapeEquiv h k)) :
    v.read (Elt F) ((v.reshape s' h).write (Elt F) g w Finset.univ) = X := by
  funext j
  obtain ⟨k, rfl⟩ := (Shape.reshapeEquiv h).surjective j
  rw [← hw k]
  exact congrFun (View.read_write_univ (v := v.reshape s' h) g w) k

/-- A squeezed view's elements are the view's. -/
theorem pts_squeeze {s s' : Shape} {e : EltTy} {sp : Space} (c : Dev nD) (M : Memref sig .tc sp s e) (h : s.Squeezes s') (q : PosShare TreeShare)
    (f : Buf (Elt F) (M.view.loc (c : Thread nD τ))) :
    (((M.squeeze s' h).view.loc (c : Thread nD τ) ↦[(M.squeeze s' h).view.set]{q} f) : sProp 𝕄) = (M.view.loc (c : Thread nD τ) ↦[M.view.set]{q} f) := by
  have hs : (M.squeeze s' h).view.set = M.view.set := View.set_reshape _ _
  exact congrArg (fun S => ((M.view.loc (c : Thread nD τ) ↦[S]{q} f) : sProp 𝕄)) hs

/-! ## The transfers between devices -/

theorem amount_piece (p : Msg) (s : DmaSem sig) :
    ((rP p).squeeze S256x512 squeezes_S1x256x512_S256x512).view.amount (.dma s) = N := rfl

/-- What a wait for a piece takes: the piece's bytes, the same for every message and for every fetch. -/
theorem credit_r (p : Msg) : ((rP p).squeeze S256x512 squeezes_S1x256x512_S256x512).view.dmaCredit = N := rfl
theorem credit_t (p : Msg) : ((tP p).squeeze S256x512 squeezes_S1x256x512_S256x512).view.dmaCredit = N := rfl

/-- Sending message `p`: the tile's piece and the piece it is written to go, the right to wait for its leaving comes. -/
theorem send_step {α : Type} {Q : α → sProp 𝕄} (K : Dev nD × CI → ℕ) (c : Dev nD) (p : Msg) (l : List Msg) {n : Dev nD} (hn : n = peer c p.1)
    {sS sR : DmaSem sig} (hs : sS = sendS p) (hr : sR = recvS p)
    {hsc} {hsrc} {hdst} {hsem}
    {k : PUnit → Prog (TpuEff nD τ sig (Elt F) Λ₀ .tc) α} :
    records m K ⊢ iprop((dutyTok ER (sendCell c p) 0 c ∗ dutyTok ER (recvCell (peer c p.1) p) 0 c ∗ atPos ER (sendCell c p) 0 ∅ 0)
      -∗ hasAny (peer c p.1) (rP p) -∗ has c (tP p) (tile m c (peer c p.1) p.2) -∗ owing c (oweSend c (p :: l))
      -∗ (Sent c p -∗ owing c (oweSend c l) -∗ run c (k ⟨⟩) Q)
      -∗ run c (.op (.enqueueDma ((tP p).squeeze S256x512 squeezes_S1x256x512_S256x512)
          (.remote (Dev.tc n) ((rP p).squeeze S256x512 squeezes_S1x256x512_S256x512) (.dma sS) hsc) (.dma sR) hsrc hdst hsem) k) Q) := by
  subst hn hs hr
  iintro #HR Hrdy Hdst Hsrc HO Hk
  unfold owing
  icases Hrdy with ⟨HtS, HtR, Hat⟩
  icases HO with ⟨%W, HO⟩
  icases Hdst with ⟨%Y, Hdst⟩
  ihave Hd := (has_elim _ _ Y) $$ Hdst
  icases Hd with ⟨%fd, %hfd, Hd⟩
  ihave Hs := (has_elim _ _ (tile m c (peer c p.1) p.2)) $$ Hsrc
  icases Hs with ⟨%fs, %hfs, Hs⟩
  ihave HI1 := (records_inv m K (iSend c p)) $$ HR
  ihave HI2 := (records_inv m K (iRecv (peer c p.1) p)) $$ HR
  ihave Hr1 := (records_reached m K (iSend c p)) $$ HR
  ihave Hr2 := (records_reached m K (iRecv (peer c p.1) p)) $$ HR
  iapply (Rounds.wp_send_pointsTo 𝒱₀ ER (sched m) (c : Thread nD τ) none (κ₁ := K (iSend c p)) (κ₂ := K (iRecv (peer c p.1) p)) (r₁ := 0) (r₂ := 0)
    (d₁ := c) (d₂ := c) (fs := fs) (fd := fd) (q := fullShare)
    (by rw [duties_send]; exact Finset.mem_singleton_self c)
    (by rw [duties_recv, unpeer_peer]; exact Finset.mem_singleton_self c) () () N (amount_piece p _) (amount_send m c p c) (amount_recv m (peer c p.1) p c)
    (oweSend c l) rfl (W := W)
    (by
      rw [payload_send]
      exact (Entails.of_eq (pts_squeeze c (tP p) _ fullShare fs)).trans ((has_intro c (tP p) fs hfs).trans (any_intro c (tP p) _)))
    (by
      rw [payload_recv]
      unfold recvPay
      rw [unpeer_peer]
      refine (Entails.of_eq (pts_squeeze (peer c p.1) (rP p) _ fullShare _)).trans
        (has_intro (peer c p.1) (rP p) _ (read_write_reshape (rP p).view _ fd _ _ fun k => ?_))
      exact congrFun hfs _)) $$ [HI1 HI2 Hs Hd HO HtS Hr1 HtR Hr2]
  · isplitl [HI1]; · iexact HI1
    isplitl [HI2]; · iexact HI2
    isplitl [Hs]; · iapply (Entails.of_eq (pts_squeeze c (tP p) squeezes_S1x256x512_S256x512 fullShare fs).symm); iexact Hs
    isplitl [Hd]; · iapply (Entails.of_eq (pts_squeeze (peer c p.1) (rP p) squeezes_S1x256x512_S256x512 fullShare fd).symm); iexact Hd
    isplitl [HO]; · iexact HO
    isplitl [HtS]; · iexact HtS
    isplitl [Hr1]; · iexact Hr1
    isplitl [HtR]; · iexact HtR
    iexact Hr2
  iintro ⟨Hc, HO⟩
  unfold Sent
  iapply Hk $$ [Hc Hat]
  · isplitl [Hc]; · iexact Hc
    iexact Hat
  iexists W; iexact HO

/-- Waiting for message `p` to have left: its piece of the send buffer comes back. -/
theorem left_step {α : Type} {Q : α → sProp 𝕄} (K : Dev nD × CI → ℕ) (c : Dev nD) (p : Msg) {sS : DmaSem sig} (hs : sS = sendS p)
    {s' : Shape} {e' : EltTy} {sp' : Space} {srcw : Memref sig .tc sp' s' e'} {dstw : Memref sig .tc .vmem S256x512 .bf16} (hN : dstw.view.dmaCredit = N)
    {hsrc} {hdst} {k : PUnit → Prog (TpuEff nD τ sig (Elt F) Λ₀ .tc) α} :
    records m K ⊢ iprop(Sent c p -∗ owing c (oweSend c []) -∗ (Left c p -∗ owing c (oweSend c []) -∗ run c (k ⟨⟩) Q)
      -∗ run c (.op (.waitDma2 sS srcw dstw hsrc hdst) k) Q) := by
  subst hs
  iintro #HR Hst HO Hk
  unfold Sent owing
  icases Hst with ⟨Hc, Hat⟩
  icases HO with ⟨%W, HO⟩
  ihave #HI := (records_inv m K (iSend c p)) $$ HR
  iapply (Rounds.wp_wait_rest_token 𝒱₀ ER (sched m) (c : Thread nD τ) none (κ := K (iSend c p))
    (wpE_waitDma2_eq 𝒱₀ (c : Thread nD τ) none Set.univ) (Set.mem_univ _) () (O := oweSend c []) (W := W) (R := 0) (m := 0) (T := ∅)
    (by rw [Nat.zero_add, expect_send, ← hN])) $$ [Hc HO Hat]
  · isplitr; · iexact HI
    isplitl [Hc]; · rw [hN]; iexact Hc
    isplitl [HO]; · iexact HO
    isplitr; · rw [show oweSend c [] = 0 from rfl, MayWait_zero]; iempintro
    iexact Hat
  iintro ⟨HO, Hat, -, Hpay⟩
  ihave Hp := (Entails.of_eq (rest_send m c p)) $$ Hpay
  imod (Rounds.cell_close ER (sched m) (Set.mem_univ (K (iSend c p))) (fun h => h) (R := 0 + 1) (duties_later m (sendCell c p))) $$ [Hat] with Hz
  · isplitr; · iexact HI
    iexact Hat
  unfold sendPay
  iapply Hk $$ [Hp Hz]
  · unfold Left
    isplitl [Hp]; · iexact Hp
    iexact Hz
  iexists _; iexact HO

/-- Waiting for message `p` to have arrived: the piece of the receive buffer that holds the sender's tile. -/
theorem arrived_step {α : Type} {Q : α → sProp 𝕄} (K : Dev nD × CI → ℕ) (c : Dev nD) (p : Msg) {sR : DmaSem sig} (hs : sR = recvS p)
    {s' : Shape} {e' : EltTy} {sp' : Space} {srcw : Memref sig .tc sp' s' e'} {dstw : Memref sig .tc .vmem S256x512 .bf16} (hN : dstw.view.dmaCredit = N)
    {hsrc} {hdst} {k : PUnit → Prog (TpuEff nD τ sig (Elt F) Λ₀ .tc) α} :
    records m K ⊢ iprop(Due c p -∗ owing c (oweSend c [])
      -∗ (has c (rP p) (tile m (unpeer c p.1) c p.2) -∗ semVal (recvCell c p) 0 -∗ owing c (oweSend c []) -∗ run c (k ⟨⟩) Q)
      -∗ run c (.op (.waitDma2 sR srcw dstw hsrc hdst) k) Q) := by
  subst hs
  iintro #HR Hst HO Hk
  unfold Due owing
  icases Hst with ⟨Hc, Hat⟩
  icases HO with ⟨%W, HO⟩
  ihave #HI := (records_inv m K (iRecv c p)) $$ HR
  iapply (Rounds.wp_wait_rest_token 𝒱₀ ER (sched m) (c : Thread nD τ) none (κ := K (iRecv c p))
    (wpE_waitDma2_eq 𝒱₀ (c : Thread nD τ) none Set.univ) (Set.mem_univ _) () (O := oweSend c []) (W := W) (R := 0) (m := 0) (T := ∅)
    (by rw [Nat.zero_add, expect_recv, ← hN])) $$ [Hc HO Hat]
  · isplitr; · iexact HI
    isplitl [Hc]; · rw [hN]; iexact Hc
    isplitl [HO]; · iexact HO
    isplitr; · rw [show oweSend c [] = 0 from rfl, MayWait_zero]; iempintro
    iexact Hat
  iintro ⟨HO, Hat, -, Hpay⟩
  ihave Hp := (Entails.of_eq (rest_recv m c p)) $$ Hpay
  imod (Rounds.cell_close ER (sched m) (Set.mem_univ (K (iRecv c p))) (fun h => h) (R := 0 + 1) (duties_later m (recvCell c p))) $$ [Hat] with Hz
  · isplitr; · iexact HI
    iexact Hat
  unfold recvPay
  iapply Hk $$ Hp Hz
  iexists _; iexact HO

/-! ## The fetches of the weights -/

/-- One of eight equal parts of the share of the weights. -/
abbrev wShare (c : Dev nD) (i : Fin 8) : sProp 𝕄 :=
  ((wM : Memref sig .tc .hbm S4096x2048 .f32).view.loc (c : Thread nD τ)) ↦{ShareLeaves.leaf 3 fullShare i} (wv m c)

/-- The half column block `e`, rows half `b`, of the weights. -/
abbrev vP (e : Dev nD) (b : Fin 2) : Memref sig .tc .hbm S2048x512 .f32 := wM.slice (rectV e b) (fun _ => rfl)
/-- The size of a fetch. -/
abbrev NW : ℕ := ((bP (0, 0)).squeeze S2048x512 squeezes_S1x2048x512_S2048x512).view.dmaCredit
theorem credit_b (p : Fin 3 × Fin 2) : ((bP p).squeeze S2048x512 squeezes_S1x2048x512_S2048x512).view.dmaCredit = NW := rfl
theorem NW_pos : 0 < NW := View.dmaCredit_pos _ (by decide)

/-- Half column block `e` is being fetched to half `p.2` of slot `p.1`, against part `i` of the weights' share. -/
def Busy (c e : Dev nD) (p : Fin 3 × Fin 2) (i : Fin 8) : sProp 𝕄 :=
  iprop(Flight EC (c : Thread nD τ) (.dma (fetS p)) () NW iprop(halfAt m c e p
      ∗ ((vP e p.2).view.loc (c : Thread nD τ) ↦[(vP e p.2).view.set]{ShareLeaves.leaf 3 fullShare i} (wv m c)))
    ∗ ((vP e p.2).view.loc (c : Thread nD τ) ↦[Finset.univ \ (vP e p.2).view.set]{ShareLeaves.leaf 3 fullShare i} (wv m c)))

/-- The half column block reads what the slot is to hold. -/
theorem fetch_value (c e : Dev nD) (p : Fin 3 × Fin 2) (k : S2048x512.Idx) (h : S2048x512.numel = S1x2048x512.numel) :
    (vP e p.2).view.read (Elt F) (wv m c) k = wslots m c e ((rectW p).emb (Shape.reshapeEquiv h k)) := by
  rw [show Shape.reshapeEquiv h k = Fin.cons ⟨0, Nat.one_pos⟩ k from Shape.reshapeEquiv_cons_one h k]
  show wv m c _ = wv m c _
  congr 1
  funext a
  match a with
  | ⟨0, _⟩ => exact Fin.ext rfl
  | ⟨1, _⟩ => exact Fin.ext (by
      show 512 * e.val + 1 * (k 1).val = 512 * e.val + (0 + 1 * (k 1).val); omega)

/-- Starting a fetch. -/
theorem fetch_step {α : Type} {Q : α → sProp 𝕄} (c e : Dev nD) (p : Fin 3 × Fin 2) (i : Fin 8) {off : Fin 2 → ℕ}
    {inb : ∀ a, off a + S2048x512.size a ≤ S4096x2048.size a} (hoff : off = ![2048 * p.2.val, 512 * e.val])
    {sF : DmaSem sig} (hs : sF = fetS p) {hsrc} {hdst} {hsem}
    {k : PUnit → Prog (TpuEff nD τ sig (Elt F) Λ₀ .tc) α} :
    wShare m c i ⊢ iprop(hasAny c (bP p) -∗ semVal ((c : Thread nD τ), .dma (fetS p)) 0 -∗ (Busy m c e p i -∗ run c (k ⟨⟩) Q)
      -∗ run c (.op (.enqueueDma (wM.slice (Rect.unit (s := S4096x2048) off S2048x512.size inb) (fun _ => rfl))
          (.here ((bP p).squeeze S2048x512 squeezes_S1x2048x512_S2048x512)) (.dma sF) hsrc hdst hsem) k) Q) := by
  subst hoff hs
  iintro Hw ⟨%X, Hb⟩ Hz Hk
  ihave Hb' := (has_elim _ _ X) $$ Hb
  icases Hb' with ⟨%fd, %hfd, Hb⟩
  ihave Hw' := (pointsTo_split_subset (q := ShareLeaves.leaf 3 fullShare i) (f := wv m c) (Finset.subset_univ (vP e p.2).view.set)).1 $$ Hw
  icases Hw' with ⟨Hs, Hrest⟩
  iapply (wp_dmaLocal EC 𝒱₀ (c : Thread nD τ) none (dst := (bP p).squeeze S2048x512 squeezes_S1x2048x512_S2048x512) (fs := wv m c) (fd := fd) (Sd := (bP p).view.set) () NW rfl NW_pos
    (le_of_eq (View.set_reshape _ _))) $$ [Hs Hb Hz]
  · isplitl [Hs]; · iexact Hs
    isplitl [Hb]; · iexact Hb
    iexact Hz
  iintro Hfl
  iapply Hk
  unfold Busy
  isplitl [Hfl]
  · iapply (Flight_mono EC (c := (c : Thread nD τ)) (D' := iprop(halfAt m c e p
      ∗ ((vP e p.2).view.loc (c : Thread nD τ) ↦[(vP e p.2).view.set]{ShareLeaves.leaf 3 fullShare i} (wv m c)))) ?_) $$ Hfl
    iintro ⟨Hd, Hs⟩
    isplitl [Hd]
    · iapply (has_intro c (bP p) _ (read_write_reshape (bP p).view _ fd _ _ fun k => fetch_value m c e p k _)) $$ Hd
    iexact Hs
  iexact Hrest

/-- Waiting for a fetch. -/
theorem fetched_step {α : Type} {Q : α → sProp 𝕄} (K : Dev nD × CI → ℕ) (c e : Dev nD) (p : Fin 3 × Fin 2) (i : Fin 8) (l : List Msg)
    {sF : DmaSem sig} (hs : sF = fetS p)
    {s' : Shape} {e' : EltTy} {sp' : Space} {srcw : Memref sig .tc sp' s' e'} {dstw : Memref sig .tc .vmem S2048x512 .f32} (hN : dstw.view.dmaCredit = NW)
    {hsrc} {hdst} {k : PUnit → Prog (TpuEff nD τ sig (Elt F) Λ₀ .tc) α} :
    records m K ⊢ iprop(Busy m c e p i -∗ owing c (oweSend c l)
      -∗ (halfAt m c e p -∗ wShare m c i -∗ semVal ((c : Thread nD τ), .dma (fetS p)) 0 -∗ owing c (oweSend c l) -∗ run c (k ⟨⟩) Q)
      -∗ run c (.op (.waitDma2 sF srcw dstw hsrc hdst) k) Q) := by
  subst hs
  iintro #HR Hb HO Hk
  unfold Busy owing
  icases Hb with ⟨Hfl, Hrest⟩
  icases HO with ⟨%W, HO⟩
  ihave Hl := (records_levels m K) $$ HR
  iapply (wp_waitLocalO EC 𝒱₀ (c : Thread nD τ) none () hN (O := oweSend c l) (W := W)) $$ [Hfl HO Hl]
  · isplitl [Hfl]; · iexact Hfl
    isplitl [HO]; · iexact HO
    iapply (mayWait_send c (.dma (fetS p)) l (by show (if (fetS p).val < 20 then 0 else 2) ≤ 1; rw [if_pos (fetS_lt p)]; exact Nat.zero_le _))
    iexact Hl
  iintro ⟨⟨Hh, Hs⟩, Hz, HO⟩
  iapply Hk $$ Hh [Hs Hrest] Hz
  · iapply (pointsTo_split_subset (q := ShareLeaves.leaf 3 fullShare i) (f := wv m c) (Finset.subset_univ (vP e p.2).view.set)).2
    isplitl [Hs]; · iexact Hs
    iexact Hrest
  iexists _; iexact HO

end Cert.Mesh

end
-- ==== Proof.Moves.lean ====
/-
# The moves of a device

Groups of operations the kernel repeats: make a tile and send it, make a tile of the device's own columns, take a tile that
arrived into the result. Each is stated once, for any message.
-/
module

public import proofs.«01_k».proof.Proof.Steps

@[expose] public section

noncomputable section

namespace Cert.Mesh

open Cert.KernelIdeal Cert.KernelIdeal.Gen

open Idealize.ShloMosaic
open Idealize.ShloMosaic.TcCoe
open Idealize.ShloMosaic.ValueIdx (ix2 eq_ix2 ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device's rows of `x`, staged. -/
def xs (c : Dev nD) : sProp 𝕄 := ((c : Thread nD τ).loc cc0_stg0_0) ↦{fullShare} (xv m c)

/-- A piece of the result. -/
abbrev oP (t : Dev nD × Fin 4) : Memref sig .tc .vmem S256x512 .f32 := oM.slice (rectO t) (fun _ => rfl)

/-- A load of piece `h` of the rows of `x`. -/
theorem load_x {α : Type} {Q : α → sProp 𝕄} (c : Dev nD) (h : Fin 4) {off : Fin 2 → ℕ} {inb : ∀ a, off a + S256x4096.size a ≤ S1024x4096.size a}
    (hoff : off = ![256 * h.val, 0]) {hl : (xM : Memref sig .tc .vmem S1024x4096 .f32).view.LoadsAt (Rect.unit (s := S1024x4096) off S256x4096.size inb).toLoadRect}
    {k : Vec F S256x4096 .f32 → Prog (TpuEff nD τ sig (Elt F) Λ₀ .tc) α} :
    xs m c ⊢ iprop((xs m c -∗ run c (k (xrow m c h)) Q)
      -∗ run c (.op (.load xM (Rect.unit (s := S1024x4096) off S256x4096.size inb).toLoadRect hl) k) Q) := by
  subst hoff
  unfold xs
  iintro H Hk
  iapply (wp_load 𝒱₀ (c : Thread nD τ) none Set.univ (m := xM) (f := xv m c) (Finset.subset_univ _)) $$ H
  iintro H
  iapply Hk $$ H

/-- Making the tile of message `p` from the block in slot `s`, and sending it. -/
theorem tile_step {α : Type} {Q : α → sProp 𝕄} (K : Dev nD × CI → ℕ) (c : Dev nD) (p : Msg) (s : Fin 3) (l : List Msg)
    {n : Dev nD} (hn : n = peer c p.1) {sS sR : DmaSem sig} (hs : sS = sendS p) (hr : sR = recvS p)
    {pay : Vec F S256x4096 .f32 → Vec F S1x4096x512 .f32 → Vec F S1x256x512 .bf16} (hpay : ∀ a b, pay a b = k0_pay1 a b)
    {offx : Fin 2 → ℕ} {inbx : ∀ a, offx a + S256x4096.size a ≤ S1024x4096.size a} (hoffx : offx = ![256 * p.2.val, 0])
    {offw : Fin 3 → ℕ} {inbw : ∀ a, offw a + S1x4096x512.size a ≤ S3x4096x512.size a} (hoffw : offw = ![s.val, 0, 0])
    {offt : Fin 3 → ℕ} {inbt inbt' : ∀ a, offt a + S1x256x512.size a ≤ S3x1024x512.size a} (hofft : offt = ![p.1.val, 256 * p.2.val, 0])
    {h1} {h2} {h3} {h4} {h5} {hsc} {hsrc} {hdst} {hsem}
    {k : PUnit → Prog (TpuEff nD τ sig (Elt F) Λ₀ .tc) α} :
    records m K ⊢ iprop(xs m c -∗ halfAt m c (peer c p.1) (s, 0) -∗ halfAt m c (peer c p.1) (s, 1) -∗ Ready c p -∗ hasAny (peer c p.1) (rP p)
      -∗ owing c (oweSend c (p :: l))
      -∗ (xs m c -∗ halfAt m c (peer c p.1) (s, 0) -∗ halfAt m c (peer c p.1) (s, 1) -∗ Sent c p -∗ owing c (oweSend c l) -∗ run c (k ⟨⟩) Q)
      -∗ run c (.op (.load xM (Rect.unit (s := S1024x4096) offx S256x4096.size inbx).toLoadRect h1) fun a =>
          .op (.load bM (Rect.unit (s := S3x4096x512) offw S1x4096x512.size inbw).toLoadRect h2) fun b =>
          .op (.load tM (Rect.unit (s := S3x1024x512) offt S1x256x512.size inbt).toLoadRect h3) fun _ =>
          .op (.store tM (Rect.unit (s := S3x1024x512) offt S1x256x512.size inbt') (pay a b) Finset.univ h4 h5) fun _ =>
          .op (.enqueueDma ((tP p).squeeze S256x512 squeezes_S1x256x512_S256x512)
            (.remote (Dev.tc n) ((rP p).squeeze S256x512 squeezes_S1x256x512_S256x512) (.dma sS) hsc) (.dma sR) hsrc hdst hsem) k) Q) := by
  subst hofft
  iintro #HR Hx H0 H1 Hrdy Hd HO Hk
  unfold Ready
  icases Hrdy with ⟨Hrdy, ⟨%Y, Ht⟩⟩
  iapply (load_x m c p.2 hoffx) $$ Hx
  iintro Hx
  iapply (load_slot m c (peer c p.1) s hoffw) $$ H0 H1
  iintro H0 H1
  iapply (load_piece c tM (off' := ![p.1.val, 256 * p.2.val, 0]) (size := S1x256x512.size) (inb' := inbt) rfl) $$ Ht
  iintro Ht
  iapply (store_over c tM (off' := ![p.1.val, 256 * p.2.val, 0]) (size := S1x256x512.size) (inb' := inbt) rfl) $$ Ht
  iintro Ht
  rw [hpay]
  iapply (send_step m K c p l hn hs hr) $$ HR Hrdy Hd [Ht] HO
  · iexact Ht
  iintro Hst HO
  iapply Hk $$ Hx H0 H1 Hst HO

/-- Making piece `h` of the result from the device's own rows. -/
theorem own_step {α : Type} {Q : α → sProp 𝕄} (c : Dev nD) (h : Fin 4) (s : Fin 3)
    {pay : Vec F S256x4096 .f32 → Vec F S1x4096x512 .f32 → Vec F S256x512 .f32} (hpay : ∀ a b, pay a b = k0_pay13 a b)
    {offx : Fin 2 → ℕ} {inbx : ∀ a, offx a + S256x4096.size a ≤ S1024x4096.size a} (hoffx : offx = ![256 * h.val, 0])
    {offw : Fin 3 → ℕ} {inbw : ∀ a, offw a + S1x4096x512.size a ≤ S3x4096x512.size a} (hoffw : offw = ![s.val, 0, 0])
    {offo : Fin 2 → ℕ} {inbo inbo' : ∀ a, offo a + S256x512.size a ≤ S4096x512.size a} (hoffo : offo = ![1024 * c.val + 256 * h.val, 0])
    {h1} {h2} {h3} {h4} {h5}
    {k : PUnit → Prog (TpuEff nD τ sig (Elt F) Λ₀ .tc) α} :
    xs m c ⊢ iprop(halfAt m c c (s, 0) -∗ halfAt m c c (s, 1) -∗ hasAny c (oP (c, h))
      -∗ (xs m c -∗ halfAt m c c (s, 0) -∗ halfAt m c c (s, 1) -∗ has c (oP (c, h)) (own m c h) -∗ run c (k ⟨⟩) Q)
      -∗ run c (.op (.load xM (Rect.unit (s := S1024x4096) offx S256x4096.size inbx).toLoadRect h1) fun a =>
          .op (.load bM (Rect.unit (s := S3x4096x512) offw S1x4096x512.size inbw).toLoadRect h2) fun b =>
          .op (.load oM (Rect.unit (s := S4096x512) offo S256x512.size inbo).toLoadRect h3) fun _ =>
          .op (.store oM (Rect.unit (s := S4096x512) offo S256x512.size inbo') (pay a b) Finset.univ h4 h5) k) Q) := by
  subst hoffo
  iintro Hx H0 H1 ⟨%Y, Ho⟩ Hk
  iapply (load_x m c h hoffx) $$ Hx
  iintro Hx
  iapply (load_slot m c c s hoffw) $$ H0 H1
  iintro H0 H1
  iapply (load_piece c oM (off' := ![1024 * c.val + 256 * h.val, 0]) (size := S256x512.size) (inb' := inbo) rfl) $$ Ho
  iintro Ho
  iapply (store_over c oM (off' := ![1024 * c.val + 256 * h.val, 0]) (size := S256x512.size) (inb' := inbo) rfl) $$ Ho
  iintro Ho
  rw [hpay]
  iapply Hk $$ Hx H0 H1 [Ho]
  iexact Ho

/-- Message `p` was taken: its piece of the receive buffer, its counter at zero, and its rows of the result. -/
def Taken (c : Dev nD) (p : Msg) : sProp 𝕄 :=
  iprop(hasAny c (rP p) ∗ semVal (recvCell c p) 0 ∗ has c (oP (unpeer c p.1, p.2)) (k0_pay17 (tile m (unpeer c p.1) c p.2)))

/-- Waiting for message `p`, and taking it into the result. -/
theorem take_step {α : Type} {Q : α → sProp 𝕄} (K : Dev nD × CI → ℕ) (c : Dev nD) (p : Msg) {sR : DmaSem sig} (hr : sR = recvS p)
    {pay : Vec F S1x256x512 .bf16 → Vec F S256x512 .f32} (hpay : ∀ a, pay a = k0_pay17 a)
    {offt : Fin 3 → ℕ} {inbt : ∀ a, offt a + S1x256x512.size a ≤ S3x1024x512.size a} (hofft : offt = ![p.1.val, 256 * p.2.val, 0])
    {offo : Fin 2 → ℕ} {inbo inbo' : ∀ a, offo a + S256x512.size a ≤ S4096x512.size a} (hoffo : offo = ![1024 * (unpeer c p.1).val + 256 * p.2.val, 0])
    {s' : Shape} {e' : EltTy} {sp' : Space} {srcw : Memref sig .tc sp' s' e'} {dstw : Memref sig .tc .vmem S256x512 .bf16} (hN : dstw.view.dmaCredit = N)
    {h1} {h2} {h3} {h4} {h5} {h6}
    {k : PUnit → Prog (TpuEff nD τ sig (Elt F) Λ₀ .tc) α} :
    records m K ⊢ iprop(Due c p -∗ hasAny c (oP (unpeer c p.1, p.2)) -∗ owing c (oweSend c [])
      -∗ (Taken m c p -∗ owing c (oweSend c []) -∗ run c (k ⟨⟩) Q)
      -∗ run c (.op (.waitDma2 sR srcw dstw h1 h2) fun _ =>
          .op (.load rM (Rect.unit (s := S3x1024x512) offt S1x256x512.size inbt).toLoadRect h3) fun a =>
          .op (.load oM (Rect.unit (s := S4096x512) offo S256x512.size inbo).toLoadRect h4) fun _ =>
          .op (.store oM (Rect.unit (s := S4096x512) offo S256x512.size inbo') (pay a) Finset.univ h5 h6) k) Q) := by
  subst hofft hoffo
  iintro #HR Hdue ⟨%Y, Ho⟩ HO Hk
  iapply (arrived_step m K c p hr hN) $$ HR Hdue HO
  iintro Hr Hz HO
  iapply (load_piece c rM (off' := ![p.1.val, 256 * p.2.val, 0]) (size := S1x256x512.size) (inb' := inbt) rfl) $$ Hr
  iintro Hr
  iapply (load_piece c oM (off' := ![1024 * (unpeer c p.1).val + 256 * p.2.val, 0]) (size := S256x512.size) (inb' := inbo) rfl) $$ Ho
  iintro Ho
  iapply (store_over c oM (off' := ![1024 * (unpeer c p.1).val + 256 * p.2.val, 0]) (size := S256x512.size) (inb' := inbo) rfl) $$ Ho
  iintro Ho
  rw [hpay]
  iapply Hk $$ [Hr Hz Ho] HO
  unfold Taken
  isplitl [Hr]; · iapply (any_intro c _ _); iexact Hr
  isplitl [Hz]; · iexact Hz
  iexact Ho

end Cert.Mesh

end
-- ==== Proof.Parts.lean ====
/-
# The parts of the body

The kernel's operations, part after part, each by its step: before anything that follows them.
-/
module

public import proofs.«01_k».proof.Proof.Moves

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Half a slot of the weights' buffer, free for a fetch. -/
def Free (c : Dev nD) (p : Fin 3 × Fin 2) : sProp 𝕄 := iprop(hasAny c (bP p) ∗ semVal ((c : Thread nD τ), .dma (fetS p)) 0)

theorem free_elim (c : Dev nD) (p : Fin 3 × Fin 2) :
    (Free (F := F) c p) ⊢ iprop(hasAny c (bP p) ∗ semVal ((c : Thread nD τ), .dma (fetS p)) 0) := .rfl
theorem free_of (c e : Dev nD) (p : Fin 3 × Fin 2) :
    halfAt m c e p ⊢ iprop(semVal ((c : Thread nD τ), .dma (fetS p)) 0 -∗ Free c p) := by
  iintro H Hz
  unfold Free
  isplitl [H]; · iapply (any_intro c _ _); iexact H
  iexact Hz

set_option maxHeartbeats 4000000 in
set_option maxRecDepth 8000 in
/-- The last two fetches, the signals and the barrier wait. -/
theorem greet_run {α : Type} {Q : α → sProp 𝕄} (K : Dev nD × CI → ℕ) (c : Dev nD) (v2 v59 : BitVec 32)
    {k : PUnit → Prog (TpuEff nD τ sig (Elt F) Λ₀ .tc) α} :
    records m K ⊢ iprop(Free c (2, 0) -∗ Free c (2, 1) -∗ wShare m c 4 -∗ wShare m c 5 -∗ Greet c 0 -∗ Greet c 1 -∗ Greet c 2 -∗ Greet c 3 -∗ Gate c -∗ owing c (O₀ c)
      -∗ (Busy m c (peer c 2) (2, 0) 4 -∗ Busy m c (peer c 2) (2, 1) 5 -∗ (bigSep Finset.univ fun j : Fin 3 => slab (peer c j) j) -∗ semVal (barCell c) 0 -∗ owing c (oweSend c sendOrder) -∗ run c (k ⟨⟩) Q)
      -∗ run c (k0_part3 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 v59 >>= k) Q) := by
  iintro #HR Hf20 Hf21 Hw4 Hw5 Hg0 Hg1 Hg2 Hg3 Hgate HO Hk
  simp only [k0_part3_eq_skeleton, k0_part3_skel, Prog.lift, Prog.bind_op, Prog.bind_ret, Prog.pure_eq_ret, wp_deviceId, Prog.bind_assoc,
    semSignalWord, semWaitWord]
  ihave Hf := (free_elim c (2, 0)) $$ Hf20
  icases Hf with ⟨Hb, Hz⟩
  iapply (fetch_step m c (peer c 2) (2, 0) 4 (off1_peer2 c) (sem_fet (2, 0) _)) $$ Hw4 Hb Hz
  iintro Hf20
  ihave Hf := (free_elim c (2, 1)) $$ Hf21
  icases Hf with ⟨Hb, Hz⟩
  iapply (fetch_step m c (peer c 2) (2, 1) 5 (off2_peer2 c) (sem_fet (2, 1) _)) $$ Hw5 Hb Hz
  iintro Hf21
  unfold O₀
  iapply (then_step c _ _)
  iapply (signal_step m K c 0 [1, 2, 3] (cond1_iff c) (n := fun h => ⟨k0_dev1, k0_dev1_lt c h⟩) (dev1_eq c)) $$ HR Hg0 HO
  iintro HO
  iapply (signal_step m K c 1 [2, 3] (cond2_iff c) (n := fun h => ⟨k0_dev2, k0_dev2_lt c h⟩) (dev2_eq c)) $$ HR Hg1 HO
  iintro HO
  iapply (signal_step m K c 2 [3] (cond3_iff c) (n := fun h => ⟨k0_dev3, k0_dev3_lt c h⟩) (dev3_eq c)) $$ HR Hg2 HO
  iintro HO
  iapply (signal_step m K c 3 [] (cond4_iff c) (n := fun h => ⟨k0_dev4, k0_dev4_lt c h⟩) (dev4_eq c)) $$ HR Hg3 HO
  iintro HO
  iapply (barrier_step m K c) $$ HR Hgate HO
  iintro Hslabs HzB HO
  unfold run
  rw [wp_ret]; imodintro
  iapply Hk $$ Hf20 Hf21 Hslabs HzB HO

set_option maxHeartbeats 4000000 in
set_option maxRecDepth 8000 in
/-- The tiles for the first partner, and the fetch of the device's own first half column block. -/
theorem first_run {α : Type} {Q : α → sProp 𝕄} (K : Dev nD × CI → ℕ) (c : Dev nD) (v2 : BitVec 32)
    {k : PUnit → Prog (TpuEff nD τ sig (Elt F) Λ₀ .tc) α} :
    records m K ⊢ iprop(Busy m c (peer c 1) (0, 0) 0 -∗ Busy m c (peer c 1) (0, 1) 1 -∗ wShare m c 6 -∗ xs m c -∗ Ready c (1, 0) -∗ Ready c (1, 1) -∗ Ready c (1, 2) -∗ Ready c (1, 3) -∗ hasAny (peer c 1) (rP (1, 0)) -∗ hasAny (peer c 1) (rP (1, 1)) -∗ hasAny (peer c 1) (rP (1, 2)) -∗ hasAny (peer c 1) (rP (1, 3)) -∗ owing c (oweSend c sendOrder)
      -∗ (Busy m c c (0, 0) 6 -∗ Free c (0, 1) -∗ wShare m c 0 -∗ wShare m c 1 -∗ xs m c -∗ Sent c (1, 0) -∗ Sent c (1, 1) -∗ Sent c (1, 2) -∗ Sent c (1, 3) -∗ owing c (oweSend c [(0, 0), (0, 1), (0, 2), (0, 3), (2, 0), (2, 1), (2, 2), (2, 3)]) -∗ run c (k ⟨⟩) Q)
      -∗ run c (k0_part4 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun w => k0_part5 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= fun w => k0_part6 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= fun w => k0_part7 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= fun w => k0_part8 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w.1 w.2.1 w.2.2 >>= k) Q) := by
  iintro #HR Hf00 Hf01 Hw6 Hx Hm0 Hm1 Hm2 Hm3 Hr0 Hr1 Hr2 Hr3 HO Hk
  simp only [k0_part4_eq_skeleton, k0_part4_skel, k0_part5_eq_skeleton, k0_part5_skel, k0_part6_eq_skeleton, k0_part6_skel, k0_part7_eq_skeleton, k0_part7_skel, k0_part8_eq_skeleton, k0_part8_skel, Prog.lift, Prog.bind_op, Prog.bind_ret, Prog.pure_eq_ret, wp_deviceId, Prog.bind_assoc,
    semSignalWord, semWaitWord]
  iapply (fetched_step m K c (peer c 1) (0, 0) 0 _ (sem_fet (0, 0) _) (credit_b (0, 0))) $$ HR Hf00 HO
  iintro Hh00 Hw0 Hz00 HO
  iapply (fetched_step m K c (peer c 1) (0, 1) 1 _ (sem_fet (0, 1) _) (credit_b (0, 1))) $$ HR Hf01 HO
  iintro Hh01 Hw1 Hz01 HO
  unfold sendOrder
  iapply (tile_step m K c (1, 0) 0 [(1, 1), (1, 2), (1, 3), (0, 0), (0, 1), (0, 2), (0, 3), (2, 0), (2, 1), (2, 2), (2, 3)] (dev5_eq c) (sem_send (1, 0) _) (sem_recv (1, 0) _) (fun _ _ => rfl) rfl rfl rfl)
    $$ HR Hx Hh00 Hh01 Hm0 Hr0 HO
  iintro Hx Hh00 Hh01 Hs0 HO
  iapply (tile_step m K c (1, 1) 0 [(1, 2), (1, 3), (0, 0), (0, 1), (0, 2), (0, 3), (2, 0), (2, 1), (2, 2), (2, 3)] (dev6_eq c) (sem_send (1, 1) _) (sem_recv (1, 1) _) (fun _ _ => rfl) rfl rfl rfl)
    $$ HR Hx Hh00 Hh01 Hm1 Hr1 HO
  iintro Hx Hh00 Hh01 Hs1 HO
  iapply (tile_step m K c (1, 2) 0 [(1, 3), (0, 0), (0, 1), (0, 2), (0, 3), (2, 0), (2, 1), (2, 2), (2, 3)] (dev7_eq c) (sem_send (1, 2) _) (sem_recv (1, 2) _) (fun _ _ => rfl) rfl rfl rfl)
    $$ HR Hx Hh00 Hh01 Hm2 Hr2 HO
  iintro Hx Hh00 Hh01 Hs2 HO
  iapply (tile_step m K c (1, 3) 0 [(0, 0), (0, 1), (0, 2), (0, 3), (2, 0), (2, 1), (2, 2), (2, 3)] (dev8_eq c) (sem_send (1, 3) _) (sem_recv (1, 3) _) (fun _ _ => rfl) rfl rfl rfl)
    $$ HR Hx Hh00 Hh01 Hm3 Hr3 HO
  iintro Hx Hh00 Hh01 Hs3 HO
  ihave Hf00 := (free_of m c _ (0, 0)) $$ Hh00 Hz00
  ihave Hf01 := (free_of m c _ (0, 1)) $$ Hh01 Hz01
  ihave Hf := (free_elim c (0, 0)) $$ Hf00
  icases Hf with ⟨Hb, Hz⟩
  iapply (fetch_step m c c (0, 0) 6 (off1_eq c) (sem_fet (0, 0) _)) $$ Hw6 Hb Hz
  iintro Hf00
  iapply Hk $$ Hf00 Hf01 Hw0 Hw1 Hx Hs0 Hs1 Hs2 Hs3 HO

set_option maxHeartbeats 4000000 in
set_option maxRecDepth 8000 in
/-- The tiles for the second partner. -/
theorem second_run {α : Type} {Q : α → sProp 𝕄} (K : Dev nD × CI → ℕ) (c : Dev nD) (v2 : BitVec 32)
    {k : PUnit → Prog (TpuEff nD τ sig (Elt F) Λ₀ .tc) α} :
    records m K ⊢ iprop(Free c (0, 1) -∗ wShare m c 7 -∗ Busy m c (peer c 0) (1, 0) 2 -∗ Busy m c (peer c 0) (1, 1) 3 -∗ Busy m c (peer c 2) (2, 0) 4 -∗ xs m c -∗ Ready c (0, 0) -∗ Ready c (0, 1) -∗ Ready c (0, 2) -∗ Ready c (0, 3) -∗ hasAny (peer c 0) (rP (0, 0)) -∗ hasAny (peer c 0) (rP (0, 1)) -∗ hasAny (peer c 0) (rP (0, 2)) -∗ hasAny (peer c 0) (rP (0, 3)) -∗ owing c (oweSend c [(0, 0), (0, 1), (0, 2), (0, 3), (2, 0), (2, 1), (2, 2), (2, 3)])
      -∗ (Busy m c c (0, 1) 7 -∗ Free c (1, 0) -∗ Free c (1, 1) -∗ wShare m c 2 -∗ wShare m c 3 -∗ wShare m c 4 -∗ halfAt m c (peer c 2) (2, 0) -∗ semVal ((c : Thread nD τ), .dma (fetS (2, 0))) 0 -∗ xs m c -∗ Sent c (0, 0) -∗ Sent c (0, 1) -∗ Sent c (0, 2) -∗ Sent c (0, 3) -∗ owing c (oweSend c [(2, 0), (2, 1), (2, 2), (2, 3)]) -∗ run c (k ⟨⟩) Q)
      -∗ run c (k0_part9 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun w => k0_part10 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w.1 w.2.1 w.2.2 >>= fun w => k0_part11 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c w.1 w.2 >>= fun w => k0_part12 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= fun w => k0_part13 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= k) Q) := by
  iintro #HR Hf01 Hw7 Hf10 Hf11 Hf20 Hx Hm0 Hm1 Hm2 Hm3 Hr0 Hr1 Hr2 Hr3 HO Hk
  simp only [k0_part9_eq_skeleton, k0_part9_skel, k0_part10_eq_skeleton, k0_part10_skel, k0_part11_eq_skeleton, k0_part11_skel, k0_part12_eq_skeleton, k0_part12_skel, k0_part13_eq_skeleton, k0_part13_skel, Prog.lift, Prog.bind_op, Prog.bind_ret, Prog.pure_eq_ret, wp_deviceId, Prog.bind_assoc,
    semSignalWord, semWaitWord]
  ihave Hf := (free_elim c (0, 1)) $$ Hf01
  icases Hf with ⟨Hb, Hz⟩
  iapply (fetch_step m c c (0, 1) 7 (off2_eq c) (sem_fet (0, 1) _)) $$ Hw7 Hb Hz
  iintro Hf01
  iapply (fetched_step m K c (peer c 0) (1, 0) 2 _ (sem_fet (1, 0) _) (credit_b (1, 0))) $$ HR Hf10 HO
  iintro Hh10 Hw2 Hz10 HO
  iapply (fetched_step m K c (peer c 0) (1, 1) 3 _ (sem_fet (1, 1) _) (credit_b (1, 1))) $$ HR Hf11 HO
  iintro Hh11 Hw3 Hz11 HO
  iapply (tile_step m K c (0, 0) 1 [(0, 1), (0, 2), (0, 3), (2, 0), (2, 1), (2, 2), (2, 3)] (dev9_eq c) (sem_send (0, 0) _) (sem_recv (0, 0) _) (fun _ _ => rfl) rfl rfl rfl)
    $$ HR Hx Hh10 Hh11 Hm0 Hr0 HO
  iintro Hx Hh10 Hh11 Hs0 HO
  iapply (tile_step m K c (0, 1) 1 [(0, 2), (0, 3), (2, 0), (2, 1), (2, 2), (2, 3)] (dev10_eq c) (sem_send (0, 1) _) (sem_recv (0, 1) _) (fun _ _ => rfl) rfl rfl rfl)
    $$ HR Hx Hh10 Hh11 Hm1 Hr1 HO
  iintro Hx Hh10 Hh11 Hs1 HO
  iapply (tile_step m K c (0, 2) 1 [(0, 3), (2, 0), (2, 1), (2, 2), (2, 3)] (dev11_eq c) (sem_send (0, 2) _) (sem_recv (0, 2) _) (fun _ _ => rfl) rfl rfl rfl)
    $$ HR Hx Hh10 Hh11 Hm2 Hr2 HO
  iintro Hx Hh10 Hh11 Hs2 HO
  iapply (tile_step m K c (0, 3) 1 [(2, 0), (2, 1), (2, 2), (2, 3)] (dev12_eq c) (sem_send (0, 3) _) (sem_recv (0, 3) _) (fun _ _ => rfl) rfl rfl rfl)
    $$ HR Hx Hh10 Hh11 Hm3 Hr3 HO
  iintro Hx Hh10 Hh11 Hs3 HO
  ihave Hf10 := (free_of m c _ (1, 0)) $$ Hh10 Hz10
  ihave Hf11 := (free_of m c _ (1, 1)) $$ Hh11 Hz11
  iapply (fetched_step m K c (peer c 2) (2, 0) 4 _ (sem_fet (2, 0) _) (credit_b (2, 0))) $$ HR Hf20 HO
  iintro Hh20 Hw4 Hz20 HO
  iapply Hk $$ Hf01 Hf10 Hf11 Hw2 Hw3 Hw4 Hh20 Hz20 Hx Hs0 Hs1 Hs2 Hs3 HO

set_option maxHeartbeats 4000000 in
set_option maxRecDepth 8000 in
/-- The tiles for the third partner, and the first piece of the device's own. -/
theorem third_run {α : Type} {Q : α → sProp 𝕄} (K : Dev nD × CI → ℕ) (c : Dev nD) (v2 : BitVec 32)
    {k : PUnit → Prog (TpuEff nD τ sig (Elt F) Λ₀ .tc) α} :
    records m K ⊢ iprop(halfAt m c (peer c 2) (2, 0) -∗ semVal ((c : Thread nD τ), .dma (fetS (2, 0))) 0 -∗ Busy m c (peer c 2) (2, 1) 5 -∗ Busy m c c (0, 0) 6 -∗ Busy m c c (0, 1) 7 -∗ xs m c -∗ Ready c (2, 0) -∗ Ready c (2, 1) -∗ Ready c (2, 2) -∗ Ready c (2, 3) -∗ hasAny (peer c 2) (rP (2, 0)) -∗ hasAny (peer c 2) (rP (2, 1)) -∗ hasAny (peer c 2) (rP (2, 2)) -∗ hasAny (peer c 2) (rP (2, 3)) -∗ hasAny c (oP (c, 0)) -∗ owing c (oweSend c [(2, 0), (2, 1), (2, 2), (2, 3)])
      -∗ (Free c (2, 0) -∗ Free c (2, 1) -∗ wShare m c 5 -∗ wShare m c 6 -∗ wShare m c 7 -∗ halfAt m c c (0, 0) -∗ halfAt m c c (0, 1) -∗ semVal ((c : Thread nD τ), .dma (fetS (0, 0))) 0 -∗ semVal ((c : Thread nD τ), .dma (fetS (0, 1))) 0 -∗ xs m c -∗ Sent c (2, 0) -∗ Sent c (2, 1) -∗ Sent c (2, 2) -∗ Sent c (2, 3) -∗ has c (oP (c, 0)) (own m c 0) -∗ owing c (oweSend c []) -∗ run c (k ⟨⟩) Q)
      -∗ run c (k0_part14 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun _ => k0_part15 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun _ => k0_part16 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun _ => k0_part17 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun w => k0_part18 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w.1 w.2 >>= k) Q) := by
  iintro #HR Hh20 Hz20 Hf21 Hf00 Hf01 Hx Hm0 Hm1 Hm2 Hm3 Hr0 Hr1 Hr2 Hr3 Ho0 HO Hk
  simp only [k0_part14_eq_skeleton, k0_part14_skel, k0_part15_eq_skeleton, k0_part15_skel, k0_part16_eq_skeleton, k0_part16_skel, k0_part17_eq_skeleton, k0_part17_skel, k0_part18_eq_skeleton, k0_part18_skel, Prog.lift, Prog.bind_op, Prog.bind_ret, Prog.pure_eq_ret, wp_deviceId, Prog.bind_assoc,
    semSignalWord, semWaitWord]
  iapply (fetched_step m K c (peer c 2) (2, 1) 5 _ (sem_fet (2, 1) _) (credit_b (2, 1))) $$ HR Hf21 HO
  iintro Hh21 Hw5 Hz21 HO
  iapply (tile_step m K c (2, 0) 2 [(2, 1), (2, 2), (2, 3)] (dev13_eq c) (sem_send (2, 0) _) (sem_recv (2, 0) _) (fun _ _ => rfl) rfl rfl rfl)
    $$ HR Hx Hh20 Hh21 Hm0 Hr0 HO
  iintro Hx Hh20 Hh21 Hs0 HO
  iapply (tile_step m K c (2, 1) 2 [(2, 2), (2, 3)] (dev14_eq c) (sem_send (2, 1) _) (sem_recv (2, 1) _) (fun _ _ => rfl) rfl rfl rfl)
    $$ HR Hx Hh20 Hh21 Hm1 Hr1 HO
  iintro Hx Hh20 Hh21 Hs1 HO
  iapply (tile_step m K c (2, 2) 2 [(2, 3)] (dev15_eq c) (sem_send (2, 2) _) (sem_recv (2, 2) _) (fun _ _ => rfl) rfl rfl rfl)
    $$ HR Hx Hh20 Hh21 Hm2 Hr2 HO
  iintro Hx Hh20 Hh21 Hs2 HO
  iapply (tile_step m K c (2, 3) 2 [] (dev16_eq c) (sem_send (2, 3) _) (sem_recv (2, 3) _) (fun _ _ => rfl) rfl rfl rfl)
    $$ HR Hx Hh20 Hh21 Hm3 Hr3 HO
  iintro Hx Hh20 Hh21 Hs3 HO
  ihave Hf20 := (free_of m c _ (2, 0)) $$ Hh20 Hz20
  ihave Hf21 := (free_of m c _ (2, 1)) $$ Hh21 Hz21
  iapply (fetched_step m K c c (0, 0) 6 _ (sem_fet (0, 0) _) (credit_b (0, 0))) $$ HR Hf00 HO
  iintro Hh00 Hw6 Hz00 HO
  iapply (fetched_step m K c c (0, 1) 7 _ (sem_fet (0, 1) _) (credit_b (0, 1))) $$ HR Hf01 HO
  iintro Hh01 Hw7 Hz01 HO
  iapply (own_step m c 0 0 (fun _ _ => rfl) rfl rfl (off3_eq c 0)) $$ Hx Hh00 Hh01 Ho0
  iintro Hx Hh00 Hh01 Ho0
  iapply Hk $$ Hf20 Hf21 Hw5 Hw6 Hw7 Hh00 Hh01 Hz00 Hz01 Hx Hs0 Hs1 Hs2 Hs3 Ho0 HO

set_option maxHeartbeats 4000000 in
set_option maxRecDepth 8000 in
/-- The rest of the device's own, and what arrives. -/
theorem take_run {α : Type} {Q : α → sProp 𝕄} (K : Dev nD × CI → ℕ) (c : Dev nD) (v2 : BitVec 32)
    {k : PUnit → Prog (TpuEff nD τ sig (Elt F) Λ₀ .tc) α} :
    records m K ⊢ iprop(halfAt m c c (0, 0) -∗ halfAt m c c (0, 1) -∗ semVal ((c : Thread nD τ), .dma (fetS (0, 0))) 0 -∗ semVal ((c : Thread nD τ), .dma (fetS (0, 1))) 0 -∗ xs m c -∗ hasAny c (oP (c, 1)) -∗ hasAny c (oP (c, 2)) -∗ hasAny c (oP (c, 3)) -∗ Due c (1, 0) -∗ hasAny c (oP (unpeer c 1, 0)) -∗ Due c (1, 1) -∗ hasAny c (oP (unpeer c 1, 1)) -∗ Due c (1, 2) -∗ hasAny c (oP (unpeer c 1, 2)) -∗ Due c (1, 3) -∗ hasAny c (oP (unpeer c 1, 3)) -∗ Due c (0, 0) -∗ hasAny c (oP (unpeer c 0, 0)) -∗ Due c (0, 1) -∗ hasAny c (oP (unpeer c 0, 1)) -∗ Due c (0, 2) -∗ hasAny c (oP (unpeer c 0, 2)) -∗ Due c (0, 3) -∗ hasAny c (oP (unpeer c 0, 3)) -∗ Due c (2, 0) -∗ hasAny c (oP (unpeer c 2, 0)) -∗ Due c (2, 1) -∗ hasAny c (oP (unpeer c 2, 1)) -∗ Due c (2, 2) -∗ hasAny c (oP (unpeer c 2, 2)) -∗ Due c (2, 3) -∗ hasAny c (oP (unpeer c 2, 3)) -∗ owing c (oweSend c [])
      -∗ (Free c (0, 0) -∗ Free c (0, 1) -∗ xs m c -∗ has c (oP (c, 1)) (own m c 1) -∗ has c (oP (c, 2)) (own m c 2) -∗ has c (oP (c, 3)) (own m c 3) -∗ Taken m c (1, 0) -∗ Taken m c (1, 1) -∗ Taken m c (1, 2) -∗ Taken m c (1, 3) -∗ Taken m c (0, 0) -∗ Taken m c (0, 1) -∗ Taken m c (0, 2) -∗ Taken m c (0, 3) -∗ Taken m c (2, 0) -∗ Taken m c (2, 1) -∗ Taken m c (2, 2) -∗ Taken m c (2, 3) -∗ owing c (oweSend c []) -∗ run c (k ⟨⟩) Q)
      -∗ run c (k0_part19 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 >>= fun w => k0_part20 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 w >>= fun v => k0_part21 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v >>= fun w => k0_part22 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 v w.1 w.2.1 w.2.2 >>= fun v => k0_part23 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v >>= fun w => k0_part24 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v w >>= fun _ => k0_part25 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v2 v >>= fun v => k0_part26 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v >>= fun _ => k0_part27 (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 c v >>= k) Q) := by
  iintro #HR Hh00 Hh01 Hz00 Hz01 Hx Ho1 Ho2 Ho3 Hd10 Hp10 Hd11 Hp11 Hd12 Hp12 Hd13 Hp13 Hd00 Hp00 Hd01 Hp01 Hd02 Hp02 Hd03 Hp03 Hd20 Hp20 Hd21 Hp21 Hd22 Hp22 Hd23 Hp23 HO Hk
  simp only [k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, Prog.lift, Prog.bind_op, Prog.bind_ret, Prog.pure_eq_ret, wp_deviceId, Prog.bind_assoc,
    semSignalWord, semWaitWord]
  iapply (own_step m c 1 0 (fun _ _ => rfl) rfl rfl (off3_eq c 1)) $$ Hx Hh00 Hh01 Ho1
  iintro Hx Hh00 Hh01 Ho1
  iapply (own_step m c 2 0 (fun _ _ => rfl) rfl rfl (off3_eq c 2)) $$ Hx Hh00 Hh01 Ho2
  iintro Hx Hh00 Hh01 Ho2
  iapply (own_step m c 3 0 (fun _ _ => rfl) rfl rfl (off3_eq c 3)) $$ Hx Hh00 Hh01 Ho3
  iintro Hx Hh00 Hh01 Ho3
  ihave Hf00 := (free_of m c _ (0, 0)) $$ Hh00 Hz00
  ihave Hf01 := (free_of m c _ (0, 1)) $$ Hh01 Hz01
  iapply (take_step m K c (1, 0) (offo := k0_off4 c 2#32 0#32) (sem_recv (1, 0) _) (fun _ => rfl) rfl (off4_eq c 1 0) (credit_r (1, 0))) $$ HR Hd10 Hp10 HO
  iintro Ht10 HO
  iapply (take_step m K c (1, 1) (offo := k0_off4 c 2#32 256#32) (sem_recv (1, 1) _) (fun _ => rfl) rfl (off4_eq c 1 1) (credit_r (1, 1))) $$ HR Hd11 Hp11 HO
  iintro Ht11 HO
  iapply (take_step m K c (1, 2) (offo := k0_off4 c 2#32 512#32) (sem_recv (1, 2) _) (fun _ => rfl) rfl (off4_eq c 1 2) (credit_r (1, 2))) $$ HR Hd12 Hp12 HO
  iintro Ht12 HO
  iapply (take_step m K c (1, 3) (offo := k0_off4 c 2#32 768#32) (sem_recv (1, 3) _) (fun _ => rfl) rfl (off4_eq c 1 3) (credit_r (1, 3))) $$ HR Hd13 Hp13 HO
  iintro Ht13 HO
  iapply (take_step m K c (0, 0) (offo := k0_off4 c 1#32 0#32) (sem_recv (0, 0) _) (fun _ => rfl) rfl (off4_eq c 0 0) (credit_r (0, 0))) $$ HR Hd00 Hp00 HO
  iintro Ht00 HO
  iapply (take_step m K c (0, 1) (offo := k0_off4 c 1#32 256#32) (sem_recv (0, 1) _) (fun _ => rfl) rfl (off4_eq c 0 1) (credit_r (0, 1))) $$ HR Hd01 Hp01 HO
  iintro Ht01 HO
  iapply (take_step m K c (0, 2) (offo := k0_off4 c 1#32 512#32) (sem_recv (0, 2) _) (fun _ => rfl) rfl (off4_eq c 0 2) (credit_r (0, 2))) $$ HR Hd02 Hp02 HO
  iintro Ht02 HO
  iapply (take_step m K c (0, 3) (offo := k0_off4 c 1#32 768#32) (sem_recv (0, 3) _) (fun _ => rfl) rfl (off4_eq c 0 3) (credit_r (0, 3))) $$ HR Hd03 Hp03 HO
  iintro Ht03 HO
  iapply (take_step m K c (2, 0) (offo := k0_off4 c 3#32 0#32) (sem_recv (2, 0) _) (fun _ => rfl) rfl (off4_eq c 2 0) (credit_r (2, 0))) $$ HR Hd20 Hp20 HO
  iintro Ht20 HO
  iapply (take_step m K c (2, 1) (offo := k0_off4 c 3#32 256#32) (sem_recv (2, 1) _) (fun _ => rfl) rfl (off4_eq c 2 1) (credit_r (2, 1))) $$ HR Hd21 Hp21 HO
  iintro Ht21 HO
  iapply (take_step m K c (2, 2) (offo := k0_off4 c 3#32 512#32) (sem_recv (2, 2) _) (fun _ => rfl) rfl (off4_eq c 2 2) (credit_r (2, 2))) $$ HR Hd22 Hp22 HO
  iintro Ht22 HO
  iapply (take_step m K c (2, 3) (offo := k0_off4 c 3#32 768#32) (sem_recv (2, 3) _) (fun _ => rfl) rfl (off4_eq c 2 3) (credit_r (2, 3))) $$ HR Hd23 Hp23 HO
  iintro Ht23 HO
  iapply Hk $$ Hf00 Hf01 Hx Ho1 Ho2 Ho3 Ht10 Ht11 Ht12 Ht13 Ht00 Ht01 Ht02 Ht03 Ht20 Ht21 Ht22 Ht23 HO

end Cert.Mesh

end
-- ==== Proof.Body.lean ====
/-
# The body of a device

The kernel's operations one after the other, each by its step.
-/
module

public import proofs.«01_k».proof.Proof.Parts

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families written out -/

theorem two (Φ : Fin 2 → sProp 𝕄) : bigSep Finset.univ Φ = iprop(Φ 0 ∗ Φ 1) := by
  rw [bigSep_univ_eq_bigSepL [0, 1] (by decide) (by decide)]; simp only [bigSepL_cons_cons, bigSepL_singleton]; rfl
theorem three (Φ : Fin 3 → sProp 𝕄) : bigSep Finset.univ Φ = iprop(Φ 0 ∗ Φ 1 ∗ Φ 2) := by
  rw [bigSep_univ_eq_bigSepL [0, 1, 2] (by decide) (by decide)]; simp only [bigSepL_cons_cons, bigSepL_singleton]; rfl
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; simp only [bigSepL_cons_cons, bigSepL_singleton]; rfl
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; simp only [bigSepL_cons_cons, bigSepL_singleton]; rfl

/-- The pieces that the barrier hands over, written out. -/
theorem slabs_open (c : Dev nD) : (bigSep Finset.univ fun j : Fin 3 => slab (F := F) (peer c j) j)
    ⊢ iprop((hasAny (peer c 0) (rP (0, 0)) ∗ hasAny (peer c 0) (rP (0, 1)) ∗ hasAny (peer c 0) (rP (0, 2)) ∗ hasAny (peer c 0) (rP (0, 3)))
      ∗ (hasAny (peer c 1) (rP (1, 0)) ∗ hasAny (peer c 1) (rP (1, 1)) ∗ hasAny (peer c 1) (rP (1, 2)) ∗ hasAny (peer c 1) (rP (1, 3)))
      ∗ (hasAny (peer c 2) (rP (2, 0)) ∗ hasAny (peer c 2) (rP (2, 1)) ∗ hasAny (peer c 2) (rP (2, 2)) ∗ hasAny (peer c 2) (rP (2, 3)))) := by
  unfold slab
  simp only [three, four]
  exact .rfl

/-- The body as the device runs it. -/
abbrev theBody : Prog (TpuEff nD τ sig (Elt F) Λ₀ .tc) PUnit :=
  cc0_body (F := F) (Memref.whole cc0_stg0_0) (Memref.isWhole_whole _) (Memref.whole main_arg1) (Memref.isWhole_whole _)
    (Memref.whole cc0_stg1_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5

set_option maxHeartbeats 4000000 in
set_option maxRecDepth 8000 in
theorem body_run {Q : PUnit → sProp 𝕄} (K : Dev nD × CI → ℕ) (c : Dev nD) :
    iprop(records m K ∗ Gate c ∗ (bigSep Finset.univ fun t : Dev nD => Greet c t)
      ∗ (bigSep Finset.univ fun j : Fin 3 => bigSep Finset.univ fun h : Fin 4 => Ready c (j, h))
      ∗ (bigSep Finset.univ fun j : Fin 3 => bigSep Finset.univ fun h : Fin 4 => iprop(Due c (j, h) ∗ hasAny c (oP (unpeer c j, h))))
      ∗ (bigSep Finset.univ fun s : Fin 3 => bigSep Finset.univ fun b : Fin 2 => Free c (s, b))
      ∗ (bigSep Finset.univ fun i : Fin 8 => wShare m c i) ∗ xs m c
      ∗ (bigSep Finset.univ fun h : Fin 4 => hasAny c (oP (c, h))) ∗ owing c (O₀ c))
    ⊢ iprop((semVal (barCell c) 0
        -∗ (bigSep Finset.univ fun j : Fin 3 => bigSep Finset.univ fun h : Fin 4 => Left c (j, h))
        -∗ (bigSep Finset.univ fun j : Fin 3 => bigSep Finset.univ fun h : Fin 4 => Taken m c (j, h))
        -∗ (bigSep Finset.univ fun s : Fin 3 => bigSep Finset.univ fun b : Fin 2 => Free c (s, b))
        -∗ (bigSep Finset.univ fun i : Fin 8 => wShare m c i) -∗ xs m c
        -∗ (bigSep Finset.univ fun h : Fin 4 => has c (oP (c, h)) (own m c h)) -∗ owing c 0 -∗ Q ⟨⟩)
      -∗ run c theBody Q) := by
  unfold theBody
  rw [show (cc0_body (F := F)) = cc0_body_skel from cc0_body_eq_skeleton]
  unfold cc0_body_skel
  rw [show (k0_part31 (F := F)) = k0_part31_skel from k0_part31_eq_skeleton]
  unfold k0_part31_skel
  simp only [three, four, two, eight, Prog.bind_assoc, run]
  iintro ⟨#HR, Hgate, ⟨Hg0, Hg1, Hg2, Hg3⟩, ⟨⟨Hm00, Hm01, Hm02, Hm03⟩, ⟨Hm10, Hm11, Hm12, Hm13⟩, ⟨Hm20, Hm21, Hm22, Hm23⟩⟩,
    ⟨⟨⟨Hd00, Hp00⟩, ⟨Hd01, Hp01⟩, ⟨Hd02, Hp02⟩, ⟨Hd03, Hp03⟩⟩, ⟨⟨Hd10, Hp10⟩, ⟨Hd11, Hp11⟩, ⟨Hd12, Hp12⟩, ⟨Hd13, Hp13⟩⟩, ⟨⟨Hd20, Hp20⟩, ⟨Hd21, Hp21⟩, ⟨Hd22, Hp22⟩, ⟨Hd23, Hp23⟩⟩⟩,
    ⟨⟨Hf00, Hf01⟩, ⟨Hf10, Hf11⟩, ⟨Hf20, Hf21⟩⟩,
    ⟨Hw0, Hw1, Hw2, Hw3, Hw4, Hw5, Hw6, Hw7⟩, Hx, ⟨Ho0, Ho1, Ho2, Ho3⟩, HO⟩ Hk
  simp only [k0_part1_eq_skeleton, k0_part1_skel, Prog.lift, Prog.bind_op, Prog.bind_ret, Prog.pure_eq_ret, wp_deviceId, Prog.bind_assoc,
    semSignalWord, semWaitWord]
  ihave Hf := (free_elim c (0, 0)) $$ Hf00
  icases Hf with ⟨Hb, Hz⟩
  iapply (fetch_step m c (peer c 1) (0, 0) 0 (off1_peer1 c) (sem_fet (0, 0) _)) $$ Hw0 Hb Hz
  iintro Hf00
  ihave Hf := (free_elim c (0, 1)) $$ Hf01
  icases Hf with ⟨Hb, Hz⟩
  iapply (fetch_step m c (peer c 1) (0, 1) 1 (off2_peer1 c) (sem_fet (0, 1) _)) $$ Hw1 Hb Hz
  iintro Hf01
  simp only [k0_part2_eq_skeleton, k0_part2_skel, Prog.lift, Prog.bind_op, Prog.bind_ret, Prog.pure_eq_ret, wp_deviceId, Prog.bind_assoc,
    semSignalWord, semWaitWord]
  ihave Hf := (free_elim c (1, 0)) $$ Hf10
  icases Hf with ⟨Hb, Hz⟩
  iapply (fetch_step m c (peer c 0) (1, 0) 2 (off1_peer0 c) (sem_fet (1, 0) _)) $$ Hw2 Hb Hz
  iintro Hf10
  ihave Hf := (free_elim c (1, 1)) $$ Hf11
  icases Hf with ⟨Hb, Hz⟩
  iapply (fetch_step m c (peer c 0) (1, 1) 3 (off2_peer0 c) (sem_fet (1, 1) _)) $$ Hw3 Hb Hz
  iintro Hf11
  iapply (greet_run m K c _ _) $$ HR Hf20 Hf21 Hw4 Hw5 Hg0 Hg1 Hg2 Hg3 Hgate HO
  iintro Hf20 Hf21 Hslabs HzB HO
  ihave Hslabs := (slabs_open c) $$ Hslabs
  icases Hslabs with ⟨⟨Hr00, Hr01, Hr02, Hr03⟩, ⟨Hr10, Hr11, Hr12, Hr13⟩, ⟨Hr20, Hr21, Hr22, Hr23⟩⟩
  iapply (first_run m K c _) $$ HR Hf00 Hf01 Hw6 Hx Hm10 Hm11 Hm12 Hm13 Hr10 Hr11 Hr12 Hr13 HO
  iintro Hf00 Hf01 Hw0 Hw1 Hx Hs10 Hs11 Hs12 Hs13 HO
  iapply (second_run m K c _) $$ HR Hf01 Hw7 Hf10 Hf11 Hf20 Hx Hm00 Hm01 Hm02 Hm03 Hr00 Hr01 Hr02 Hr03 HO
  iintro Hf01 Hf10 Hf11 Hw2 Hw3 Hw4 Hh20 Hz20 Hx Hs00 Hs01 Hs02 Hs03 HO
  iapply (third_run m K c _) $$ HR Hh20 Hz20 Hf21 Hf00 Hf01 Hx Hm20 Hm21 Hm22 Hm23 Hr20 Hr21 Hr22 Hr23 Ho0 HO
  iintro Hf20 Hf21 Hw5 Hw6 Hw7 Hh00 Hh01 Hz00 Hz01 Hx Hs20 Hs21 Hs22 Hs23 Ho0 HO
  iapply (take_run m K c _) $$ HR Hh00 Hh01 Hz00 Hz01 Hx Ho1 Ho2 Ho3 Hd10 Hp10 Hd11 Hp11 Hd12 Hp12 Hd13 Hp13 Hd00 Hp00 Hd01 Hp01 Hd02 Hp02 Hd03 Hp03 Hd20 Hp20 Hd21 Hp21 Hd22 Hp22 Hd23 Hp23 HO
  iintro Hf00 Hf01 Hx Ho1 Ho2 Ho3 Ht10 Ht11 Ht12 Ht13 Ht00 Ht01 Ht02 Ht03 Ht20 Ht21 Ht22 Ht23 HO
  simp only [k0_part28_eq_skeleton, k0_part28_skel, k0_part29_eq_skeleton, k0_part29_skel, k0_part30_eq_skeleton, k0_part30_skel, Prog.lift, Prog.bind_op, Prog.bind_ret, Prog.pure_eq_ret, wp_deviceId, Prog.bind_assoc,
    semSignalWord, semWaitWord]
  iapply (left_step m K c (1, 0) (sem_send (1, 0) _) (credit_t (1, 0))) $$ HR Hs10 HO
  iintro Hl10 HO
  iapply (left_step m K c (1, 1) (sem_send (1, 1) _) (credit_t (1, 1))) $$ HR Hs11 HO
  iintro Hl11 HO
  iapply (left_step m K c (1, 2) (sem_send (1, 2) _) (credit_t (1, 2))) $$ HR Hs12 HO
  iintro Hl12 HO
  iapply (left_step m K c (1, 3) (sem_send (1, 3) _) (credit_t (1, 3))) $$ HR Hs13 HO
  iintro Hl13 HO
  iapply (left_step m K c (0, 0) (sem_send (0, 0) _) (credit_t (0, 0))) $$ HR Hs00 HO
  iintro Hl00 HO
  iapply (left_step m K c (0, 1) (sem_send (0, 1) _) (credit_t (0, 1))) $$ HR Hs01 HO
  iintro Hl01 HO
  iapply (left_step m K c (0, 2) (sem_send (0, 2) _) (credit_t (0, 2))) $$ HR Hs02 HO
  iintro Hl02 HO
  iapply (left_step m K c (0, 3) (sem_send (0, 3) _) (credit_t (0, 3))) $$ HR Hs03 HO
  iintro Hl03 HO
  iapply (left_step m K c (2, 0) (sem_send (2, 0) _) (credit_t (2, 0))) $$ HR Hs20 HO
  iintro Hl20 HO
  iapply (left_step m K c (2, 1) (sem_send (2, 1) _) (credit_t (2, 1))) $$ HR Hs21 HO
  iintro Hl21 HO
  iapply (left_step m K c (2, 2) (sem_send (2, 2) _) (credit_t (2, 2))) $$ HR Hs22 HO
  iintro Hl22 HO
  iapply (left_step m K c (2, 3) (sem_send (2, 3) _) (credit_t (2, 3))) $$ HR Hs23 HO
  iintro Hl23 HO
  unfold run
  rw [wp_ret]; imodintro
  iapply Hk $$ HzB [Hl00 Hl01 Hl02 Hl03 Hl10 Hl11 Hl12 Hl13 Hl20 Hl21 Hl22 Hl23] [Ht00 Ht01 Ht02 Ht03 Ht10 Ht11 Ht12 Ht13 Ht20 Ht21 Ht22 Ht23] [Hf00 Hf01 Hf10 Hf11 Hf20 Hf21] [Hw0 Hw1 Hw2 Hw3 Hw4 Hw5 Hw6 Hw7] Hx [Ho0 Ho1 Ho2 Ho3] [HO]
  · isplitl [Hl00 Hl01 Hl02 Hl03]
    · isplitl [Hl00]; · iexact Hl00
      isplitl [Hl01]; · iexact Hl01
      isplitl [Hl02]; · iexact Hl02
      iexact Hl03
    isplitl [Hl10 Hl11 Hl12 Hl13]
    · isplitl [Hl10]; · iexact Hl10
      isplitl [Hl11]; · iexact Hl11
      isplitl [Hl12]; · iexact Hl12
      iexact Hl13
    isplitl [Hl20]; · iexact Hl20
    isplitl [Hl21]; · iexact Hl21
    isplitl [Hl22]; · iexact Hl22
    iexact Hl23
  · isplitl [Ht00 Ht01 Ht02 Ht03]
    · isplitl [Ht00]; · iexact Ht00
      isplitl [Ht01]; · iexact Ht01
      isplitl [Ht02]; · iexact Ht02
      iexact Ht03
    isplitl [Ht10 Ht11 Ht12 Ht13]
    · isplitl [Ht10]; · iexact Ht10
      isplitl [Ht11]; · iexact Ht11
      isplitl [Ht12]; · iexact Ht12
      iexact Ht13
    isplitl [Ht20]; · iexact Ht20
    isplitl [Ht21]; · iexact Ht21
    isplitl [Ht22]; · iexact Ht22
    iexact Ht23
  · isplitl [Hf00 Hf01]
    · isplitl [Hf00]; · iexact Hf00
      iexact Hf01
    isplitl [Hf10 Hf11]
    · isplitl [Hf10]; · iexact Hf10
      iexact Hf11
    isplitl [Hf20]; · iexact Hf20
    iexact Hf21
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  · isplitl [Ho0]; · iexact Ho0
    isplitl [Ho1]; · iexact Ho1
    isplitl [Ho2]; · iexact Ho2
    iexact Ho3
  · iexact HO

end Cert.Mesh

end
-- ==== Proof.Core.lean ====
/-
# What a device holds around the body

The buffers and counters a device is given, sorted into the pieces the body takes; and the pieces the body leaves, put
together into the buffers and counters again. The result's contents are given here.
-/
module

public import proofs.«01_k».proof.Proof.Body

@[expose] public section

noncomputable section

namespace Cert.Mesh

open Cert.KernelIdeal Cert.KernelIdeal.Gen

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- Piece `h` of device `c`'s columns of the result, in the rows of device `s`. -/
def piece (c : Dev nD) (t : Dev nD × Fin 4) : Vec F S256x512 .f32 :=
  if t.1 = c then own m c t.2 else k0_pay17 (tile m t.1 c t.2)

theorem row_dev (i : S4096x512.Idx) : (i 0).val / 1024 < 4 := by have h : (i 0).val < 4096 := (i 0).isLt; omega
theorem row_piece (i : S4096x512.Idx) : (i 0).val % 1024 / 256 < 4 := by omega

/-- Device `c`'s columns of the result. -/
def outG (c : Dev nD) : S4096x512.Idx → Elt F .f32 := fun i =>
  piece m c (⟨(i 0).val / 1024, row_dev i⟩, ⟨(i 0).val % 1024 / 256, row_piece i⟩)
    (ix2 (⟨(i 0).val % 256, Nat.mod_lt _ (by decide)⟩ : Fin 256) (⟨(i 1).val, (i 1).isLt⟩ : Fin 512))

theorem outG_emb (c : Dev nD) (t : Dev nD × Fin 4) (j : (rectO t).shape.Idx) : outG m c ((rectO t).emb j) = piece m c t j := by
  obtain ⟨s, h⟩ := t
  have hs : s.val < 4 := s.isLt
  have hh : h.val < 4 := h.isLt
  have hj : (j 0).val < 256 := (j 0).isLt
  have e0 : (((rectO (s, h)).emb j) 0).val = 1024 * s.val + 256 * h.val + (j 0).val := by
    show 1024 * s.val + 256 * h.val + 1 * (j 0).val = _; omega
  have e1 : (((rectO (s, h)).emb j) 1).val = (j 1).val := by
    show 0 + 1 * (j 1).val = _; omega
  unfold outG
  congr 1
  · refine Prod.ext (Fin.ext ?_) (Fin.ext ?_)
    · show (((rectO (s, h)).emb j) 0).val / 1024 = s.val; rw [e0]; omega
    · show (((rectO (s, h)).emb j) 0).val % 1024 / 256 = h.val; rw [e0]; omega
  · funext a
    match a with
    | ⟨0, _⟩ => exact Fin.ext (by show (((rectO (s, h)).emb j) 0).val % 256 = (j 0).val; rw [e0]; omega)
    | ⟨1, _⟩ => exact Fin.ext (by show (((rectO (s, h)).emb j) 1).val = (j 1).val; rw [e1])

/-! ## Families over the others -/

/-- A family over the devices is the device's own and those of the devices it is a partner of. -/
theorem by_partner (c : Dev nD) (Φ : Dev nD → sProp 𝕄) :
    bigSep Finset.univ Φ = iprop(Φ c ∗ bigSep Finset.univ fun j : Fin 3 => Φ (unpeer c j)) := by
  rw [bigSep_univ_at _ c, others_unpeer, bigSep_map]; rfl

/-- The pieces of the result: the device's own rows, and the others'. -/
theorem by_rows (c : Dev nD) (Φ : Dev nD × Fin 4 → sProp 𝕄) :
    bigSep Finset.univ Φ = iprop((bigSep Finset.univ fun h : Fin 4 => Φ (c, h))
      ∗ bigSep Finset.univ fun p : Msg => Φ (unpeer c p.1, p.2)) := by
  rw [bigSep_univ_prod, by_partner c, ← bigSep_univ_prod (fun p : Msg => Φ (unpeer c p.1, p.2))]

/-- The greetings: the right to signal each device, and the pieces of the receive buffer. -/
theorem greetings (c : Dev nD) :
    iprop((bigSep Finset.univ fun t : Dev nD => dutyTok ER (barCell t) 0 c) ∗ bigSep Finset.univ fun p : Msg => hasAny (F := F) c (rP p))
      ⊢ bigSep Finset.univ fun t : Dev nD => Greet c t := by
  rw [by_partner c (fun t => dutyTok ER (barCell t) 0 c), by_partner c (fun t => Greet c t),
    bigSep_univ_prod (fun p : Msg => hasAny (F := F) c (rP p)),
    show Greet (F := F) c c = iprop(emp) from if_pos rfl,
    show (fun j : Fin 3 => Greet (F := F) c (unpeer c j)) = fun j => iprop(dutyTok ER (barCell (unpeer c j)) 0 c ∗ slab c j) from
      funext fun j => by unfold Greet; rw [if_neg (unpeer_ne c j), idx_unpeer],
    bigSep_sep']
  iintro ⟨⟨-, H⟩, Hr⟩
  isplitr; · iempintro
  isplitl [H]; · iexact H
  iexact Hr

/-! ## Before the body and after it -/

/-- The rights and positions of the exchange that a device starts with. -/
def Dealt (c : Dev nD) : sProp 𝕄 :=
  iprop((bigSep Finset.univ fun t : Dev nD => dutyTok ER (barCell t) 0 c)
    ∗ (bigSep Finset.univ fun p : Msg => dutyTok ER (sendCell c p) 0 c)
    ∗ (bigSep Finset.univ fun p : Msg => dutyTok ER (recvCell (peer c p.1) p) 0 c)
    ∗ atPos ER (barCell c) 0 ∅ 0
    ∗ (bigSep Finset.univ fun p : Msg => atPos ER (sendCell c p) 0 ∅ 0)
    ∗ (bigSep Finset.univ fun p : Msg => atPos ER (recvCell c p) 0 ∅ 0))
/-- The units and arrivals that a device may wait for. -/
def Awaited (c : Dev nD) : sProp 𝕄 :=
  iprop(cred (tallyAt (barCell c) () 3) ∗ bigSep Finset.univ fun p : Msg => cred (tallyAt (recvCell c p) () N))
/-- The counters of the fetches, at zero. -/
def Fetches (c : Dev nD) : sProp 𝕄 :=
  bigSep Finset.univ fun p : Fin 3 × Fin 2 => semVal ((c : Thread nD τ), .dma (fetS p)) 0
/-- The three buffers of the body, whatever they hold. -/
def Buffers (c : Dev nD) : sProp 𝕄 := iprop(hasAny c bM ∗ hasAny c tM ∗ hasAny c rM)
/-- The weights. -/
def Weights (c : Dev nD) : sProp 𝕄 := ((wM : Memref sig .tc .hbm S4096x2048 .f32).view.loc (c : Thread nD τ)) ↦{fullShare} (wv m c)

theorem weights_parts (c : Dev nD) : (Weights m c) = bigSep Finset.univ fun i : Fin 8 => wShare m c i :=
  ShareLeaves.pointsTo_leaves (ℓ := (wM : Memref sig .tc .hbm S4096x2048 .f32).view.loc (c : Thread nD τ)) Finset.univ (wv m c) 3 fullShare

theorem msgs_nested (Φ : Msg → sProp 𝕄) :
    bigSep Finset.univ Φ = bigSep Finset.univ fun j : Fin 3 => bigSep Finset.univ fun h : Fin 4 => Φ (j, h) := bigSep_univ_prod Φ

/-- The body, from the buffers and counters to the buffers and counters. -/
theorem body_whole {Q : PUnit → sProp 𝕄} (K : Dev nD × CI → ℕ) (c : Dev nD) :
    iprop(records m K ∗ Dealt c ∗ Awaited c ∗ Fetches c ∗ Buffers c ∗ Weights m c ∗ xs m c ∗ hasAny c oM ∗ owing c (O₀ c))
    ⊢ iprop((semVal (barCell c) 0 -∗ (bigSep Finset.univ fun p : Msg => semVal (sendCell c p) 0)
        -∗ (bigSep Finset.univ fun p : Msg => semVal (recvCell c p) 0)
        -∗ Fetches c -∗ Buffers c -∗ Weights m c -∗ xs m c -∗ has c oM (outG m c) -∗ owing c 0 -∗ Q ⟨⟩)
      -∗ run c theBody Q) := by
  unfold Dealt Awaited Fetches Buffers
  rw [weights_parts]
  iintro ⟨#HR, ⟨Htb, Hts, Htr, Hab, Has, Har⟩, ⟨Hcb, Hcr⟩, Hf, ⟨Hb, Ht, Hr⟩, Hw, Hx, Ho, HO⟩ Hk
  ihave Hb := (pieces_of_whole c bM rectW (fun _ _ => rfl) rectW_disjoint rectW_cover) $$ Hb
  ihave Ht := (pieces_of_whole c tM rectP (fun _ _ => rfl) rectP_disjoint rectP_cover) $$ Ht
  ihave Hr := (pieces_of_whole c rM rectP (fun _ _ => rfl) rectP_disjoint rectP_cover) $$ Hr
  ihave Ho := (pieces_of_whole c oM rectO (fun _ _ => rfl) rectO_disjoint rectO_cover) $$ Ho
  ihave Ho := (Entails.of_eq (by_rows c fun t => hasAny c (oM.slice (rectO t) (fun _ => rfl)))) $$ Ho
  icases Ho with ⟨Hown, Hoth⟩
  iapply (body_run m K c) $$ [Htb Hts Htr Hab Has Har Hcb Hcr Hf Hb Ht Hr Hw Hx Hown Hoth HO]
  · isplitr; · iexact HR
    isplitl [Hcb Hab]
    · unfold Gate; isplitl [Hcb]; · iexact Hcb
      iexact Hab
    isplitl [Htb Hr]
    · iapply (greetings c); isplitl [Htb]; · iexact Htb
      iexact Hr
    isplitl [Hts Htr Has Ht]
    · iapply (Entails.of_eq (msgs_nested fun p : Msg => Ready c p))
      unfold Ready
      rw [bigSep_sep', bigSep_sep', bigSep_sep']
      isplitl [Hts Htr Has]
      · isplitl [Hts]; · iexact Hts
        isplitl [Htr]; · iexact Htr
        iexact Has
      iexact Ht
    isplitl [Hcr Har Hoth]
    · iapply (Entails.of_eq (msgs_nested fun p : Msg => iprop(Due c p ∗ hasAny c (oP (unpeer c p.1, p.2)))))
      unfold Due
      rw [bigSep_sep', bigSep_sep']
      isplitl [Hcr Har]
      · isplitl [Hcr]; · iexact Hcr
        iexact Har
      iexact Hoth
    isplitl [Hf Hb]
    · iapply (Entails.of_eq (bigSep_univ_prod fun p : Fin 3 × Fin 2 => Free c p))
      unfold Free
      rw [bigSep_sep']
      isplitl [Hb]; · iexact Hb
      iexact Hf
    isplitl [Hw]; · iexact Hw
    isplitl [Hx]; · iexact Hx
    isplitl [Hown]; · iexact Hown
    iexact HO
  iintro HzB Hl Htk Hfr Hw Hx Hown HO
  ihave Hl := (Entails.of_eq (msgs_nested fun p : Msg => Left c p).symm) $$ Hl
  ihave Htk := (Entails.of_eq (msgs_nested fun p : Msg => Taken m c p).symm) $$ Htk
  ihave Hfr := (Entails.of_eq (bigSep_univ_prod fun p : Fin 3 × Fin 2 => Free c p).symm) $$ Hfr
  unfold Left Taken Free
  ihave Hl := (Entails.of_eq (bigSep_sep' Finset.univ _ _)) $$ Hl
  ihave Htk := (Entails.of_eq (bigSep_sep' Finset.univ _ _)) $$ Htk
  ihave Hfr := (Entails.of_eq (bigSep_sep' Finset.univ _ _)) $$ Hfr
  icases Hl with ⟨Ht, HzS⟩
  icases Htk with ⟨Hr, Htk⟩
  ihave Htk := (Entails.of_eq (bigSep_sep' Finset.univ _ _)) $$ Htk
  icases Htk with ⟨HzR, Hoth⟩
  icases Hfr with ⟨Hb, Hf⟩
  iapply Hk $$ HzB HzS HzR Hf [Hb Ht Hr] Hw Hx [Hown Hoth] HO
  · isplitl [Hb]; · iapply (whole_of_any c bM rectW (fun _ _ => rfl) rectW_disjoint rectW_cover); iexact Hb
    isplitl [Ht]; · iapply (whole_of_any c tM rectP (fun _ _ => rfl) rectP_disjoint rectP_cover); iexact Ht
    iapply (whole_of_any c rM rectP (fun _ _ => rfl) rectP_disjoint rectP_cover); iexact Hr
  · iapply (whole_of_pieces c oM rectO (fun _ _ => rfl) rectO_disjoint rectO_cover (outG m c))
    rw [show (fun t => has (F := F) c (oM.slice (rectO t) (fun _ => rfl)) (fun j => outG m c ((rectO t).emb j)))
      = fun t => has c (oP t) (piece m c t) from funext fun t => by rw [show (fun j => outG m c ((rectO t).emb j)) = piece m c t from funext (outG_emb m c t)]]
    iapply (Entails.of_eq (by_rows c fun t => has c (oP t) (piece m c t)).symm)
    isplitl [Hown]
    · rw [show (fun h : Fin 4 => has c (oP (c, h)) (piece m c (c, h))) = fun h => has c (oP (c, h)) (own m c h) from
        funext fun h => by rw [show piece m c (c, h) = own m c h from if_pos rfl]]
      iexact Hown
    · rw [show (fun p : Msg => has c (oP (unpeer c p.1, p.2)) (piece m c (unpeer c p.1, p.2)))
          = fun p : Msg => has c (oP (unpeer c p.1, p.2)) (k0_pay17 (tile m (unpeer c p.1) c p.2)) from
        funext fun p => by rw [show piece m c (unpeer c p.1, p.2) = k0_pay17 (tile m (unpeer c p.1) c p.2) from if_neg (unpeer_ne c p.1)]]
      iexact Hoth

end Cert.Mesh

end
-- ==== Proof.Owed.lean ====
/-
# What the devices owe together

Added over the devices, what is owed to a device's barrier is one unit from each other device, and what is owed to the
counter of a message received is that one message. So each device may wait for exactly these.
-/
module

public import proofs.«01_k».proof.Proof.Core

@[expose] public section

noncomputable section

namespace Cert.Mesh

open Cert.KernelIdeal Cert.KernelIdeal.Gen

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem recv_inj {a b : Dev nD} {p q : Msg} (h : recvCell a p = recvCell b q) : a = b ∧ p = q :=
  ⟨Fin.ext (congrArg (fun g : GSem nD τ sig => g.1.1.val) h), recvS_inj (SemLoc.dma.inj (congrArg Prod.snd h))⟩
theorem send_inj {a b : Dev nD} {p q : Msg} (h : sendCell a p = sendCell b q) : a = b ∧ p = q :=
  ⟨Fin.ext (congrArg (fun g : GSem nD τ sig => g.1.1.val) h), sendS_inj (SemLoc.dma.inj (congrArg Prod.snd h))⟩
theorem bar_inj {a b : Dev nD} (h : barCell a = barCell b) : a = b :=
  Fin.ext (congrArg (fun g : GSem nD τ sig => g.1.1.val) h)
theorem bar_ne_recv {a b : Dev nD} {p : Msg} : barCell a ≠ recvCell b p := fun h => nomatch congrArg Prod.snd h
theorem bar_ne_send {a b : Dev nD} {p : Msg} : barCell a ≠ sendCell b p := fun h => nomatch congrArg Prod.snd h
theorem send_ne_recv {a b : Dev nD} {p q : Msg} : sendCell a p ≠ recvCell b q := fun h => by
  have h1 : sendS p = recvS q := SemLoc.dma.inj (congrArg Prod.snd h)
  exact recvS_not_lt q (h1 ▸ sendS_lt p)

theorem oweSend_recv (d c : Dev nD) (p : Msg) (l : List Msg) (hl : l.Nodup) :
    oweSend d l (recvCell c p) () = if p ∈ l ∧ c = peer d p.1 then N else 0 := by
  induction l with
  | nil => rw [if_neg (fun h => List.not_mem_nil h.1)]; rfl
  | cons q l ih =>
    have hq := List.nodup_cons.mp hl
    unfold oweSend
    rw [Pi.add_apply, Finsupp.add_apply, tallyAt_apply, ih hq.2]
    by_cases h : p = q
    · subst h
      rw [if_neg (fun h' => hq.1 h'.1), Nat.zero_add]
      exact if_congr ⟨fun h' => ⟨List.mem_cons_self, (recv_inj h'.1).1⟩, fun h' => ⟨by rw [← h'.2], rfl⟩⟩ rfl rfl
    · rw [if_neg (c := recvCell c p = recvCell (peer d q.1) q ∧ () = ()) (fun h' => h (recv_inj h'.1).2), Nat.add_zero]
      exact if_congr ⟨fun h' => ⟨List.mem_cons_of_mem _ h'.1, h'.2⟩,
        fun h' => ⟨(List.mem_cons.mp h'.1).resolve_left h, h'.2⟩⟩ rfl rfl

theorem oweSend_bar (d c : Dev nD) (l : List Msg) : oweSend d l (barCell c) () = 0 :=
  Nat.eq_zero_of_not_pos fun h => by obtain ⟨p, _, hp⟩ := oweSend_pos h; exact bar_ne_recv hp

theorem oweBar_recv (d c : Dev nD) (p : Msg) (l : List (Dev nD)) :
    oweBar d l (recvCell c p) () = oweSend d sendOrder (recvCell c p) () := by
  induction l with
  | nil => rfl
  | cons t l ih =>
    unfold oweBar
    split
    · exact ih
    · rw [Pi.add_apply, Finsupp.add_apply, tallyAt_apply, if_neg (fun h => bar_ne_recv h.1.symm), Nat.add_zero]; exact ih

theorem oweBar_bar (d c : Dev nD) (l : List (Dev nD)) (hl : l.Nodup) :
    oweBar d l (barCell c) () = if c ∈ l ∧ c ≠ d then 1 else 0 := by
  induction l with
  | nil => rw [if_neg (fun h => List.not_mem_nil h.1)]; exact oweSend_bar d c _
  | cons t l ih =>
    have ht := List.nodup_cons.mp hl
    unfold oweBar
    by_cases h : t = d
    · rw [if_pos h, ih ht.2]
      exact if_congr ⟨fun h' => ⟨List.mem_cons_of_mem _ h'.1, h'.2⟩,
        fun h' => ⟨(List.mem_cons.mp h'.1).resolve_left fun e => h'.2 (e.trans h), h'.2⟩⟩ rfl rfl
    · rw [if_neg h, Pi.add_apply, Finsupp.add_apply, tallyAt_apply, ih ht.2]
      by_cases hc : c = t
      · subst hc
        rw [if_neg (fun h' => ht.1 h'.1), if_pos ⟨rfl, rfl⟩, if_pos ⟨List.mem_cons_self, h⟩]
      · rw [if_neg (c := barCell c = barCell t ∧ () = ()) (fun h' => hc (bar_inj h'.1)), Nat.add_zero]
        exact if_congr ⟨fun h' => ⟨List.mem_cons_of_mem _ h'.1, h'.2⟩,
          fun h' => ⟨(List.mem_cons.mp h'.1).resolve_left hc, h'.2⟩⟩ rfl rfl

theorem all_devs (c : Dev nD) : c ∈ ([0, 1, 2, 3] : List (Dev nD)) := by revert c; decide
theorem all_sent (p : Msg) : p ∈ sendOrder := by revert p; decide

theorem owed_bar (d c : Dev nD) : O₀ d (barCell c) () = if c ≠ d then 1 else 0 := by
  unfold O₀; rw [oweBar_bar d c _ (by decide)]
  exact if_congr ⟨fun h => h.2, fun h => ⟨all_devs c, h⟩⟩ rfl rfl

theorem owed_recv (d c : Dev nD) (p : Msg) : O₀ d (recvCell c p) () = if d = unpeer c p.1 then N else 0 := by
  unfold O₀; rw [oweBar_recv, oweSend_recv d c p _ (by decide)]
  exact if_congr ⟨fun h => by rw [h.2, unpeer_peer], fun h => ⟨all_sent p, by rw [h, peer_unpeer]⟩⟩ rfl rfl

theorem three_others (c : Dev nD) : (∑ d : Dev nD, if c ≠ d then 1 else 0) = 3 := by revert c; decide

theorem due_bar (c : Dev nD) :
    tallyOn (barCell c) (launchCredit (Pipeline.owing O₀) 0 (barCell c)) = (tallyAt (barCell c) () 3 : CellTallies nD τ sig Unit) := by
  unfold tallyAt
  congr 1
  refine Finsupp.ext fun u => ?_
  rw [Pipeline.launchCredit_owing, Finset.sum_congr rfl fun d _ => owed_bar d c, three_others, Finsupp.single_eq_same]

theorem due_recv (c : Dev nD) (p : Msg) :
    tallyOn (recvCell c p) (launchCredit (Pipeline.owing O₀) 0 (recvCell c p)) = (tallyAt (recvCell c p) () N : CellTallies nD τ sig Unit) := by
  unfold tallyAt
  congr 1
  refine Finsupp.ext fun u => ?_
  rw [Pipeline.launchCredit_owing, Finset.sum_congr rfl fun d _ => owed_recv d c p, Finset.sum_ite_eq', if_pos (Finset.mem_univ _),
    Finsupp.single_eq_same]

/-- The counters of the messages received are among the counters besides the barrier. -/
theorem recvs_rest : (Finset.univ.map ⟨fun p : Msg => (SemLoc.dma (recvS p) : SemLoc sig), fun _ _ h => recvS_inj (SemLoc.dma.inj h)⟩)
    ⊆ Finset.univ.erase (SemLoc.reg barS) := fun s hs => by
  obtain ⟨p, _, rfl⟩ := Finset.mem_map.mp hs
  refine Finset.mem_erase.mpr (And.intro (fun h => ?_) (Finset.mem_univ _))
  cases h

/-- So of what is owed at the start each device may wait for its units and its arrivals. -/
theorem awaited_intro (c : Dev nD) : (Pipeline.launchCred O₀ c : sProp 𝕄) ⊢ Awaited c := by
  unfold Pipeline.launchCred Awaited
  rw [bigSep_univ_at _ (SemLoc.reg barS), due_bar]
  refine sep_mono_right ((bigSep_subset recvs_rest).trans ?_)
  rw [bigSep_map]
  exact bigSep_mono fun p _ => Entails.of_eq (congrArg cred (due_recv c p))

end Cert.Mesh

end
-- ==== Proof.Launch.lean ====
/-
# The launch

What the launch deals each device, the counters made into the exchange's counters, the body as the launch runs it, and the
whole run: every execution ends, with the arguments as they were, the result's columns computed and all counters at zero.
-/
module

public import proofs.«01_k».proof.Proof.Owed
public import proofs.«01_k».proof.Proof.Gen.KernelIdeal.Points
public import Idealize.ShloMosaic.Lib.Pipeline.CollectiveSegs

@[expose] public section

noncomputable section

namespace Cert.Mesh

open Cert.KernelIdeal Cert.KernelIdeal.Gen

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The counters and rights dealt -/

/-- The body's own counters: those of the fetches, of the messages sent, of the messages received. -/
abbrev Own : Type := (Fin 3 × Fin 2) ⊕ (Msg ⊕ Msg)
abbrev osem : Own → SemLoc sig
  | .inl p => .dma (fetS p)
  | .inr (.inl p) => .dma (sendS p)
  | .inr (.inr p) => .dma (recvS p)

theorem osem_facts : Pipeline.OwnSemFacts cfg0.spec osem := by decide

theorem csem_inj : Function.Injective csem := by decide
theorem kcell_inj : Function.Injective kcell := by
  rintro ⟨c, k⟩ ⟨d, l⟩ h
  have h1 : c = d := congrArg (fun g : GSem nD τ sig => g.1.1) h
  exact Prod.ext h1 (csem_inj (congrArg Prod.snd h))
/-- All counters of the exchange. -/
def counters : Finset (GSem nD τ sig) := Finset.univ.map ⟨kcell, kcell_inj⟩

/-- The duties a device pays: its unit to each device's barrier, each message's leaving, each message's arrival. -/
abbrev Duty : Type := Dev nD ⊕ (Msg ⊕ Msg)
abbrev dutyOf (cd : Dev nD × Duty) : GSem nD τ sig × ℕ × Dev nD := match cd.2 with
  | .inl t => (barCell t, 0, cd.1)
  | .inr (.inl p) => (sendCell cd.1 p, 0, cd.1)
  | .inr (.inr p) => (recvCell (peer cd.1 p.1) p, 0, cd.1)
theorem dutyOf_inj : Function.Injective dutyOf := by
  rintro ⟨c, k⟩ ⟨d, l⟩ h
  have h1 : c = d := by
    have := congrArg (fun x : GSem nD τ sig × ℕ × Dev nD => x.2.2) h
    rcases k with t | p | p <;> rcases l with u | q | q <;> exact this
  subst h1
  have h2 := congrArg Prod.fst h
  rcases k with t | p | p <;> rcases l with u | q | q
  · rw [bar_inj h2]
  · exact absurd h2 bar_ne_send
  · exact absurd h2 bar_ne_recv
  · exact absurd h2.symm bar_ne_send
  · rw [(send_inj h2).2]
  · exact absurd h2 send_ne_recv
  · exact absurd h2.symm bar_ne_recv
  · exact absurd h2.symm send_ne_recv
  · rw [(recv_inj h2).2]
/-- All duties of the exchange. -/
def duties : Finset (GSem nD τ sig × ℕ × Dev nD) := Finset.univ.map ⟨dutyOf, dutyOf_inj⟩

/-- The launch's counters and the exchange's. -/
def u₀ : UU :=
  (initOf (Pipeline.cells cfgs cellOf_inj) (Pipeline.launchToks cfgs cellOf_inj), (initOf counters duties, 1))

theorem own_u₀ : (ownU (u₀ : UU) : sProp 𝕄)
    ⊢ iprop(BI.own (EP (initOf (Pipeline.cells cfgs cellOf_inj) (Pipeline.launchToks cfgs cellOf_inj))) ∗ BI.own (ER (initOf counters duties))) := by
  unfold u₀
  exact BI.own_op_elim ((uEmb (nD := nD) (sig := sig) (Ix := Unit) (Val := Elt F) (Name := ℕ) (U := UU) (Lvl := ℕ)).toEmb.op_of_mem
    (Prod.mk_mem_op (URA.mem_op_one _) (URA.mem_one_op _)))

/-- The rights of device `c`'s duties. -/
def Rights (c : Dev nD) : sProp 𝕄 :=
  bigSep Finset.univ fun k : Duty => dutyTok ER (dutyOf (c, k)).1 (dutyOf (c, k)).2.1 (dutyOf (c, k)).2.2
/-- The positions of device `c`'s counters. -/
def Places (c : Dev nD) : sProp 𝕄 := bigSep Finset.univ fun k : CI => atPos ER (kcell (c, k)) 0 ∅ 0

theorem rights_eq (c : Dev nD) : (Rights c : sProp 𝕄)
    = iprop((bigSep Finset.univ fun t : Dev nD => dutyTok ER (barCell t) 0 c)
      ∗ (bigSep Finset.univ fun p : Msg => dutyTok ER (sendCell c p) 0 c)
      ∗ (bigSep Finset.univ fun p : Msg => dutyTok ER (recvCell (peer c p.1) p) 0 c)) := by
  unfold Rights; rw [bigSep_univ_sum, bigSep_univ_sum]; rfl

theorem counters_eq (Φ : CI → sProp 𝕄) : bigSep Finset.univ Φ
    = iprop(Φ (.inl ()) ∗ (bigSep Finset.univ fun p : Msg => Φ (.inr (.inl p))) ∗ (bigSep Finset.univ fun p : Msg => Φ (.inr (.inr p)))) := by
  rw [bigSep_univ_sum, bigSep_univ_sum, show (bigSep Finset.univ fun u : Unit => Φ (.inl u)) = Φ (.inl ()) from bigSep_singleton]
  rfl

theorem dealt_intro (c : Dev nD) : iprop(Rights c ∗ Places c) ⊢ (Dealt c : sProp 𝕄) := by
  unfold Places Dealt
  rw [rights_eq, counters_eq]
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

/-- What the launch deals device `c`. -/
def G (c : Dev nD) : sProp 𝕄 :=
  iprop((bigSep Finset.univ fun k : CI => roundState ER (sched m) (kcell (c, k)) 0)
    ∗ (bigSep Finset.univ fun k : CI => reached ER (kcell (c, k)) 0) ∗ Rights c ∗ Places c)

theorem fund : BI.own (ER (initOf counters duties)) ⊢ (|==> bigSep Finset.univ (G m) : sProp 𝕄) := by
  have hC (Φ : GSem nD τ sig → sProp 𝕄) :
      bigSep counters Φ = bigSep Finset.univ fun c : Dev nD => bigSep Finset.univ fun k : CI => Φ (kcell (c, k)) := by
    unfold counters; rw [bigSep_map, bigSep_univ_prod]; rfl
  have hD : bigSep duties (fun x => (dutyTok ER x.1 x.2.1 x.2.2 : sProp 𝕄)) = bigSep Finset.univ fun c : Dev nD => Rights c := by
    unfold duties; rw [bigSep_map, bigSep_univ_prod]; rfl
  iintro H
  imod (Rounds.fund ER (sched m) counters duties) $$ H with ⟨Hst, Hr, Hat, Htok⟩
  imodintro
  unfold G Places
  simp only [bigSep_sep']
  isplitl [Hst]; · iapply (Entails.of_eq (hC fun g => roundState ER (sched m) g 0)); iexact Hst
  isplitl [Hr]; · iapply (Entails.of_eq (hC fun g => reached ER g 0)); iexact Hr
  isplitl [Htok]; · iapply (Entails.of_eq hD); iexact Htok
  iapply (Entails.of_eq (hC fun g => atPos ER g 0 ∅ 0)); iexact Hat

/-! ## The counters made into the exchange's -/

/-- The invariants and marks, before the levels are known. -/
def marks (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)
instance marks_persistent (K : Dev nD × CI → ℕ) : BI.Persistent (marks m K) := by unfold marks; infer_instance

/-- What device `c` has of the exchange once its counters are made. -/
def G' (c : Dev nD) : sProp 𝕄 := iprop((∃ K, marks m K) ∗ Dealt c ∗ Fetches c)

theorem own_eq (c : Dev nD) :
    (Pipeline.ownSems0 (Ix := Unit) (Name := ℕ) (U := UU) (Lvl := ℕ) (Val := Elt F) (τ := τ) osem c : sProp 𝕄)
      = iprop(Fetches c ∗ (bigSep Finset.univ fun p : Msg => semVal (sendCell c p) 0) ∗ (bigSep Finset.univ fun p : Msg => semVal (recvCell c p) 0)) := by
  unfold Pipeline.ownSems0; rw [bigSep_univ_sum, bigSep_univ_sum]; rfl
theorem unscoped_eq (c : Dev nD) : (unscopedSems0 c : sProp 𝕄) = semVal (barCell c) 0 := by
  unfold unscopedSems0; rw [bigSep_eq_bigSepL_of_eq [SemLoc.reg barS] (by decide) (by decide)]; rfl

/-- The exchange's counters of device `c`, each put under its invariant. -/
theorem alloc (c : Dev nD) :
    iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem make (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => reached ER (kcell (c, k)) 0) ∗ Dealt c ∗ Fetches c) := by
  rw [own_eq, unscoped_eq]
  unfold G
  iintro ⟨⟨Hf, Hs, Hv⟩, Hb, Hst, Hr, Htok, Hat⟩
  imod (alloc m c) $$ [Hb Hs Hv Hst] with Hinv
  · isplitl [Hb Hs Hv]
    · iapply (Entails.of_eq (counters_eq fun k => (semVal (kcell (c, k)) 0 : sProp 𝕄)).symm)
      isplitl [Hb]; · iexact Hb
      isplitl [Hs]; · iexact Hs
      iexact Hv
    iexact Hst
  imodintro
  isplitl [Hinv]; · iexact Hinv
  isplitl [Hr]; · iexact Hr
  isplitl [Htok Hat]
  · iapply (dealt_intro c); isplitl [Htok]; · iexact Htok
    iexact Hat
  iexact Hf

theorem share_out :
    (bigSep Finset.univ fun c : Dev nD => iprop((bigSep Finset.univ fun k : CI => iprop(∃ κ : ℕ, cellInv ER (sched m) κ (kcell (c, k))))
          ∗ (bigSep Finset.univ fun k : CI => reached ER (kcell (c, k)) 0) ∗ Dealt c ∗ Fetches c) : sProp 𝕄)
      ⊢ bigSep Finset.univ (G' m) := by
  rw [bigSep_sep', bigSep_sep', ← bigSep_univ_prod (fun ck : Dev nD × CI => iprop(∃ κ : ℕ, cellInv ER (sched m) κ (kcell ck))),
    ← bigSep_univ_prod (fun ck : Dev nD × CI => (reached ER (kcell ck) 0 : sProp 𝕄))]
  iintro ⟨HI, #HR, Hd⟩
  ihave HK := (BI.bigSep_exists_pi Finset.univ (fun (ck : Dev nD × CI) (κ : ℕ) => (cellInv ER (sched m) κ (kcell ck) : sProp 𝕄))) $$ HI
  icases HK with ⟨%K, #HI⟩
  iapply (bigSep_with_persistent (R := marks m K) (Φ := fun c => iprop(Dealt c ∗ Fetches c)) fun c _ => (show iprop(marks m K ∗ Dealt c ∗ Fetches c) ⊢ G' m c by
    unfold G'
    iintro ⟨H1, H2⟩
    isplitl [H1]; · iexists K; iexact H1
    iexact H2))
  isplitr
  · unfold marks; isplitl; · iexact HI
    iexact HR
  · iexact Hd

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (share_out m))

/-! ## The body as the launch runs it -/

/-- What a device holds when the launch has dealt. -/
def start (c : Dev nD) : sProp 𝕄 := iprop((∃ K, records m K) ∗ Dealt c ∗ Awaited c ∗ Fetches c ∗ Weights m c)
/-- What the body starts from, -/
def before (c : Dev nD) : sProp 𝕄 := iprop(start m c ∗ Buffers c)
/-- and what it leaves. -/
def after (c : Dev nD) : sProp 𝕄 :=
  iprop(semVal (barCell c) 0 ∗ (bigSep Finset.univ fun p : Msg => semVal (sendCell c p) 0)
    ∗ (bigSep Finset.univ fun p : Msg => semVal (recvCell c p) 0) ∗ Fetches c ∗ Buffers c ∗ Weights m c)

/-- The launch's data: the arrays, what the body leaves in the staging buffers, and what it holds around its one step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => outG m c
  Φ t := match t with
    | ⟨0, _⟩ => before m c
    | ⟨_ + 1, _⟩ => after m c
  q _ := fullShare
  owed t := match t with
    | ⟨0, _⟩ => O₀ c
    | ⟨_ + 1, _⟩ => 0

/-- A staging buffer owned whole. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(before m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(after m c ∗ (dats m ρ 0 c).owesAt () t0_0.succ ∗ stg c cc0_stg0_0 (xv m c) ∗ stg c cc0_stg1_0 (outG m c))

theorem before_x (c : Dev nD) (d) : (dats m ρ 0 c).before (0 : Fin 2) t0_0 d = xv m c := by
  unfold Dat.before; rw [if_pos (fetch0_0 t0_0)]; rfl

theorem owes_start (c : Dev nD) : (dats m ρ 0 c).owesAt () t0_0.castSucc ⊢ (owing c (O₀ c) : sProp 𝕄) := by
  unfold Dat.owesAt Pipeline.owesWithin owing
  rw [show (dats m ρ 0 c).owed t0_0.castSucc = O₀ c from rfl]
  iintro ⟨%W, %hW, H⟩; iexists W; iexact H
theorem owes_end (c : Dev nD) : (owing c 0 : sProp 𝕄) ⊢ (dats m ρ 0 c).owesAt () t0_0.succ := by
  unfold Dat.owesAt Pipeline.owesWithin owing
  rw [show (dats m ρ 0 c).owed t0_0.succ = 0 from rfl]
  iintro ⟨%W, H⟩; iexists W; isplitr; · (ipureintro; exact fun _ _ => Or.inl trivial)
  iexact H

theorem body_stg (c : Dev nD) : bodyPre m ρ c ⊢ run c theBody (fun _ => bodyPost m ρ c) := by
  unfold bodyPre before start bodyPost after
  simp only [before_x]
  iintro ⟨⟨⟨⟨%K, HR⟩, Hd, Ha, Hf, Hw⟩, Hb⟩, Ho, ⟨%d0, Hx⟩, ⟨%d1, Hout⟩⟩
  ihave HO := (owes_start m ρ c) $$ Ho
  unfold stg
  icases Hx with ⟨%g0, %hg0, Hx⟩
  icases Hout with ⟨%g1, %hg1, Hout⟩
  subst hg0
  iapply (body_whole m K c) $$ [HR Hd Ha Hf Hb Hw Hx Hout HO]
  · isplitl [HR]; · iexact HR
    isplitl [Hd]; · iexact Hd
    isplitl [Ha]; · iexact Ha
    isplitl [Hf]; · iexact Hf
    isplitl [Hb]; · iexact Hb
    isplitl [Hw]; · iexact Hw
    isplitl [Hx]; · unfold xs; iexact Hx
    isplitl [Hout]; · iapply (any_of_pts c cc0_stg1_0); iexists g1; iexact Hout
    iexact HO
  iintro HzB HzS HzR Hf Hb Hw Hx Hout HO
  isplitl [HzB HzS HzR Hf Hb Hw]
  · isplitl [HzB]; · iexact HzB
    isplitl [HzS]; · iexact HzS
    isplitl [HzR]; · iexact HzR
    isplitl [Hf]; · iexact Hf
    isplitl [Hb]; · iexact Hb
    iexact Hw
  isplitl [HO]; · iapply (owes_end m ρ c); iexact HO
  isplitl [Hx]
  · iexists (xv m c); isplitr; · (ipureintro; rfl)
    unfold xs; iexact Hx
  iapply (Entails.of_eq (has_whole c cc0_stg1_0 (outG m c))); iexact Hout

theorem body_obligation (c : Dev nD) : BodyObligation (dats (F := F) m ρ 0 c) (defs₀ (F := F)) 𝒱₀ () Set.univ := fun t => by
  rw [fin_N0 t, bigSep_W0, bigSep_W0]
  simp only [has_whole]
  exact body_stg m ρ c

/-! ## Around the body -/

theorem weights_eq (c : Dev nD) : (Weights m c) = (((c : Thread nD τ).loc main_arg1) ↦{fullShare} m ((c : Thread nD τ).loc main_arg1) : sProp 𝕄) := rfl

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨Hw, Hlev, Hcr, -, ⟨%K, HI⟩, Hd, Hf⟩
  imodintro
  isplitl
  · isplitl [HI Hlev]
    · iexists K
      unfold marks records
      icases HI with ⟨H1, H2⟩
      isplitl [H1]; · iexact H1
      isplitl [H2]; · iexact H2
      iexact Hlev
    isplitl [Hd]; · iexact Hd
    isplitl [Hcr]; · iapply (awaited_intro c); iexact Hcr
    isplitl [Hf]; · iexact Hf
    rw [weights_eq]; iexact Hw
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before Buffers
  iintro ⟨Hs, -, Hb, Ht, Hr⟩
  isplitl [Hs]; · iexact Hs
  isplitl [Hb]; · iapply (any_of_pts c cc0_scratch0); iexact Hb
  isplitl [Ht]; · iapply (any_of_pts c cc0_scratch1); iexact Ht
  iapply (any_of_pts c cc0_scratch2); iexact Hr

theorem after_exit (c : Dev nD) :
    (dats m ρ 0 c).Φ (Fin.last cfg0.N) ⊢ iprop((unscopedSems0 c ∗ Weights m c) ∗ Pipeline.ownSems0 osem c ∗ Pipeline.scopedRest cfg0.spec c) := by
  rw [show (dats m ρ 0 c).Φ (Fin.last cfg0.N) = after m c from rfl, scopedRest0_eq, own_eq, unscoped_eq]
  unfold after Buffers
  iintro ⟨HzB, HzS, HzR, Hf, ⟨Hb, Ht, Hr⟩, Hw⟩
  isplitl [HzB Hw]
  · isplitl [HzB]; · iexact HzB
    iexact Hw
  isplitl [HzS HzR Hf]
  · isplitl [Hf]; · iexact Hf
    isplitl [HzS]; · iexact HzS
    iexact HzR
  isplitl [Hb]; · iapply (pts_of_any c cc0_scratch0); iexact Hb
  isplitl [Ht]; · iapply (pts_of_any c cc0_scratch1); iexact Ht
  iapply (pts_of_any c cc0_scratch2); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the end tells of the memory: the counters at zero, and the weights as they were. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem kept_read (c : Dev nD) (s : Phys nD τ sig (Elt F)) :
    iprop((unscopedSems0 c ∗ Weights m c) ∗ emp ∗ SI s) ⊢ |={Set.univ}=> iprop(⌜Kept m c s.mem⌝ ∗ SI s : sProp 𝕄) := by
  iintro ⟨⟨Hu, Hw⟩, -, HSI⟩
  ihave Hw := (Entails.of_eq (weights_eq m c)) $$ Hw
  ihave %hw := (SI_pointsTo_agree (st := s) (ℓ := (c : Thread nD τ).loc main_arg1) (I := Finset.univ) (q := fullShare) (f := m ((c : Thread nD τ).loc main_arg1))) $$ [Hw HSI]
  · isplitl [HSI]; · iexact HSI
    iexact Hw
  imod (Pipeline.unscopedSems0_read (X := unscopedSems0 c) (c := c) fupd_intro s) $$ [Hu HSI] with ⟨%hs, HSI⟩
  · isplitl [Hu] <;> iassumption
  imodintro
  isplitr; · ipureintro; exact ⟨hs, Buf.eq_of_forall_mem_univ hw⟩
  iexact HSI

/-! ## The run -/

/-- A window's array after the run. -/
def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (own_u₀ (F := F)) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ Weights m c)) (Z := fun _ => iprop(emp))
    (hX := start_intro m ρ) (hin := before_intro m ρ) (hout := after_exit m ρ)
    (QY := Kept m) (hY := kept_read m)
    (hQ := fun _ h hs => ⟨fun c => ⟨(h c).1, (h c).2.2.2⟩, sem_eq_zero hs fun c => (h c).2.2.1⟩)

end Cert.Mesh

end
-- ==== Proof.Finish.lean ====
/-
# The memory after the run

Every execution ends with the arguments as they were, the counters at zero, and each device's columns of the result as
the body computed them.
-/
module

public import proofs.«01_k».proof.Proof.Launch

@[expose] public section

noncomputable section

namespace Cert.Mesh

open Cert.KernelIdeal Cert.KernelIdeal.Gen

open Idealize.ShloMosaic
open Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem x_end (c : Dev nD) : finalA m ρ c (0 : Fin 2) = m ((c : Thread nD τ).loc main_arg0) :=
  (dats m ρ 0 c).arrAt_in (0 : Fin 2) rfl _

/-- The result is one block, the whole array, and the body's one step wrote it. -/
theorem out_end (c : Dev nD) : finalA m ρ c (1 : Fin 2) = outG m c := by
  have hz : (fun a => (win0_1.index (0 : Fin 1)) a * main_v1.ty.shape.size a) = fun _ => 0 := funext fun a => by fin_cases a <;> decide
  have hr : (win0_1.blk (0 : Fin 1)).view.read (Elt F) (finalA m ρ c (1 : Fin 2)) = finalA m ρ c (1 : Fin 2) :=
    Memref.read_access_unit_zero (Elt F) main_v1 hz (fun a => by fin_cases a <;> decide) _
  rw [← hr]
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from flush0_1 _, if_pos rfl]
  exact View.read_write_univ _ _

/-- The device's rows of `x`, as the launch finds them. -/
theorem xv_eq (c : Dev nD) : xv m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The run, read at the arguments and at the counters, -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (0 : Fin 2)).trans (x_end m ρ c), (h.1 c).2⟩, h.2⟩) (run_main m ρ)

/-- and at the result. -/
theorem run_value : θ_run defs (onTc (τ := τ) (main (F := F))) (s₀ m ρ) (fun r => ∀ c : Dev nD,
    r.2.mem ((c : Thread nD τ).loc main_v1) = outG m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 (1 : Fin 2)).trans (out_end m ρ c), ((h.1 c).1 (0 : Fin 2)).trans (x_end m ρ c), (h.1 c).2⟩)
    (run_main m ρ)

end Cert.Mesh

end
-- ==== Proof.Silu.lean ====
/-
# The scalar facts

On extended reals: a value within ±60 is what clipping it to ±60 gives, and dividing it by one plus the exponential of
its negative is multiplying it by its logistic value.
-/
module

public import Idealize.ShloMosaic.Lib.IdealHost

@[expose] public section

noncomputable section

namespace Cert.Silu

open Idealize.ShloMosaic

/-- The pattern of 60 -/
theorem sixty : Ideal.ofBits .f32 0x42700000#32 = ((60 : ℝ) : EReal) := by
  simp [Ideal.ofBits, Ideal.ieee, -EReal.coe_mul]; norm_num

/-- and of -60. -/
theorem neg_sixty : Ideal.ofBits .f32 0xC2700000#32 = -((60 : ℝ) : EReal) := by
  rw [show -((60 : ℝ) : EReal) = ((-60 : ℝ) : EReal) by norm_num]
  simp [Ideal.ofBits, Ideal.ieee, -EReal.coe_mul, -EReal.coe_neg]; norm_num

/-- Within the bound, clipping changes nothing. -/
theorem clip_eq {y B : EReal} (h : max y (-y) ≤ B) : min B (max (-B) y) = y := by
  have h1 : y ≤ B := (le_max_left _ _).trans h
  have h2 : -B ≤ y := EReal.neg_le.mp ((le_max_right _ _).trans h)
  rw [max_eq_right h2, min_eq_right h1]

/-- An exponential is not negative. -/
theorem exp_nonneg (y : EReal) : 0 ≤ Ideal.exp y := by
  induction y with
  | bot => exact le_refl _
  | top => exact le_top
  | coe r => exact EReal.coe_nonneg.mpr (Real.exp_pos r).le

/-- So the divisor is not zero, -/
theorem divisor_ne (y : EReal) : 1 + Ideal.exp y ≠ 0 := by
  have h1 : (1 : EReal) ≤ 1 + Ideal.exp y := le_add_of_nonneg_right (exp_nonneg y)
  intro e; rw [e] at h1; exact absurd h1 (by simp)

/-- and the product with the logistic value is the quotient. -/
theorem silu_eq {y B : EReal} (h : max y (-y) ≤ B) :
    y * Ideal.logistic y = Ideal.div y (1 + Ideal.exp (-(min B (max (-B) y)))) := by
  rw [clip_eq h]; exact Ideal.mul_one_div (divisor_ne _)

end Cert.Silu
-- ==== Proof.Value.lean ====
/-
# The value of the result

On extended reals, the number device `c` ends with at row `r` and column `j` of its columns is the product of `x` and
the weights at row `r` and column `512 c + j`, times its logistic value. So, where the products are within ±60, it is
block `c` of the reference's result.
-/
module

public import proofs.«01_k».proof.Defs
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Finish
public import proofs.«01_k».proof.Proof.Silu
public import Idealize.ShloMosaic.Lib.MatmulPlain
public import Idealize.ShloMosaic.Lib.StackMember
public import Idealize.ShloMosaic.Lib.ReduceAll
public import Idealize.ShloMosaic.Lib.Layout

@[expose] public section

noncomputable section

namespace Cert.Mesh

open Cert.KernelIdeal Cert.KernelIdeal.Gen
open Idealize.ShloMosaic Idealize.ShloMosaic.TcCoe
open Idealize.ShloMosaic.ValueIdx (ix0 ix2 ix3 eq_ix2)
open scoped BigOperators

/-- A row of a matrix times a column of another. -/
def dotAt {R N : Nat} (x : FVec Ideal ⟨2, ![R, 4096]⟩ .f32) (w : FVec Ideal ⟨2, ![4096, N]⟩ .f32) (r : Fin R) (j : Fin N) : EReal :=
  ∑ k : Fin 4096, x (ix2 r k) * w (ix2 k j)

/-- A block of columns, without its leading axis of one. -/
def flat (w : Vec Ideal S1x4096x512 .f32) : FVec Ideal S4096x512 .f32 := fun i =>
  w (ix3 (0 : Fin 1) (⟨(i 0).val, (i 0).isLt⟩ : Fin 4096) (⟨(i 1).val, (i 1).isLt⟩ : Fin 512))

/-! ## The kernel's tiles -/

/-- A tile by number: the product times its logistic value. -/
theorem own_at (x : Vec Ideal S256x4096 .f32) (w : Vec Ideal S1x4096x512 .f32) (r : Fin 256) (j : Fin 512) :
    k0_pay13 x w (ix2 r j)
      = dotAt x (flat w) r j * Ideal.logistic (dotAt x (flat w) r j) := by
  have hx : shapeCast S256x4096 x shapeCasts_S256x4096_S256x4096 = x := shapeCast_self _ _
  have hw : shapeCast S4096x512 w shapeCasts_S1x4096x512_S4096x512 = flat w := by
    funext i
    refine (shapeCast_dropUnit_apply ![4096, 512] w _ i).trans (congrArg w ?_)
    funext a
    match a with
    | ⟨0, _⟩ => rfl
    | ⟨1, _⟩ => rfl
    | ⟨2, _⟩ => rfl
  have hd : dot_S256x4096_S4096x512_S256x512_1_0_0_1_n_n = DotDims.plain 256 4096 512 := rfl
  have hy : matmul (φ₁ := .f32) (φ₂ := .f32) dot_S256x4096_S4096x512_S256x512_1_0_0_1_n_n none x (flat w)
      (constant (F := Ideal) S256x512 .f32 0x00000000#32) (ix2 r j) = dotAt x (flat w) r j := by
    unfold matmul; rw [hd]
    refine (Ideal.matmul_plain_apply ..).trans ?_
    show Ideal.ofBits .f32 0x00000000#32 + _ = _
    rw [Ideal.ofBits_zero_f32, zero_add]; rfl
  unfold k0_pay13
  rw [hx, hw]
  refine (show _ = matmul (φ₁ := .f32) (φ₂ := .f32) _ none x (flat w) _ (ix2 r j) * Ideal.logistic (matmul (φ₁ := .f32) (φ₂ := .f32) _ none x (flat w) _ (ix2 r j)) from rfl).trans ?_
  rw [hy]

/-- A tile sent and received is the tile: narrowing and widening change nothing. -/
theorem sent_eq (x : Vec Ideal S256x4096 .f32) (w : Vec Ideal S1x4096x512 .f32) : k0_pay17 (k0_pay1 x w) = k0_pay13 x w := by
  unfold k0_pay17 k0_pay1
  dsimp only
  rw [shapeCast_shapeCast]
  rfl

variable (m : (ℓ : Loc nD τ sig) → Buf (Elt Ideal) ℓ)

/-- So a piece of the result, own or received, is the tile its device computed. -/
theorem piece_eq (c : Dev nD) (t : Dev nD × Fin 4) : piece m c t = k0_pay13 (xrow m t.1 t.2) (wcol m t.1 c) := by
  unfold piece
  split
  · next h => rw [← h]; rfl
  · exact sent_eq _ _

/-- A row of a piece of `x` is a row of the device's block of `x`. -/
theorem xrow_at (s : Dev nD) (h : Fin 4) (r : Fin 256) (k : Fin 4096) (hr : 256 * h.val + r.val < 1024) :
    xrow m s h (ix2 r k) = m ((s : Thread nD τ).loc main_arg0) (ix2 (⟨256 * h.val + r.val, hr⟩ : Fin 1024) k) := by
  rw [← xv_eq m s]
  show xv m s _ = xv m s _
  refine congrArg (xv m s) ?_
  funext a
  match a with
  | ⟨0, _⟩ => exact Fin.ext (show 256 * h.val + 1 * r.val = 256 * h.val + r.val by omega)
  | ⟨1, _⟩ => exact Fin.ext (show 0 + 1 * k.val = k.val by omega)

/-- The product at row `r` of device `s`'s block and column `j` of the columns of device `c`. -/
theorem tile_dot (s c : Dev nD) (h : Fin 4) (r : Fin 256) (j : Fin 512) (hr : 256 * h.val + r.val < 1024) (hj : 512 * c.val + j.val < 2048) :
    dotAt (xrow m s h) (flat (wcol m s c)) r j
      = dotAt (m ((s : Thread nD τ).loc main_arg0)) (m ((s : Thread nD τ).loc main_arg1)) (⟨256 * h.val + r.val, hr⟩ : Fin 1024) (⟨512 * c.val + j.val, hj⟩ : Fin 2048) := by
  unfold dotAt
  refine Finset.sum_congr rfl fun k _ => ?_
  rw [xrow_at m s h r k hr]
  rfl

/-! ## The precondition and the reference, read at an index -/

/-- The precondition of one device: each product of its rows of `x` is within ±60. -/
theorem bound_of_pre (x : FVec Ideal S1024x4096 .f32) (w : FVec Ideal S4096x2048 .f32)
    (h : Cert.Pre_in_range_KernelIdeal.fn (F := Ideal) x w = fun _ => 1#1) (r : Fin 1024) (j : Fin 2048) :
    max (dotAt x w r j) (-(dotAt x w r j)) ≤ ((60 : ℝ) : EReal) := by
  have hd : Host.dotGeneral Cert.Pre_in_range_KernelIdeal.dot_S1024x4096_S4096x2048_S1024x2048_1_0_0_1_n_n none x w (ix2 r j) = dotAt x w r j :=
    StackMember.dotGeneral_plain_apply none x w r j
  have hs : Subsingleton Cert.Pre_in_range_KernelIdeal.S_.Idx := ⟨fun a b => funext fun d => d.elim0⟩
  have e := Host.reduce_andi_all _ _ _ _ ix0 (congrFun h ix0) (ix2 r j)
  have e' : Ideal.cmp .ole (max (Host.dotGeneral Cert.Pre_in_range_KernelIdeal.dot_S1024x4096_S4096x2048_S1024x2048_1_0_0_1_n_n none x w (ix2 r j))
      (-(Host.dotGeneral Cert.Pre_in_range_KernelIdeal.dot_S1024x4096_S4096x2048_S1024x2048_1_0_0_1_n_n none x w (ix2 r j)))) (Ideal.ofBits .f32 0x42700000#32) = 1#1 := e
  rw [hd, Silu.sixty] at e'
  by_contra hn
  simp [Ideal.cmp, hn] at e'

/-- The reference's result, as its operations compose. -/
def refOut (x : FVec Ideal Cert.ReferenceIdeal.S4096x4096 .f32) (w : FVec Ideal Cert.ReferenceIdeal.S4096x2048 .f32) :
    FVec Ideal Cert.ReferenceIdeal.S4096x2048 .f32 :=
  Host.divf (Host.dotGeneral Cert.ReferenceIdeal.dot_S4096x4096_S4096x2048_S4096x2048_1_0_0_1_n_n none x w)
    (addf (broadcastInDim Cert.ReferenceIdeal.S4096x2048 ![] Cert.ReferenceIdeal.Gen.bcast_S_S4096x2048 (constant Cert.ReferenceIdeal.S_ .f32 0x3F800000#32))
      (Host.exp (Host.negf (minimumf (broadcastInDim Cert.ReferenceIdeal.S4096x2048 ![] Cert.ReferenceIdeal.Gen.bcast_S_S4096x2048 (id (constant Cert.ReferenceIdeal.S_ .f32 0x42700000#32)))
        (maximumf (broadcastInDim Cert.ReferenceIdeal.S4096x2048 ![] Cert.ReferenceIdeal.Gen.bcast_S_S4096x2048 (id (constant Cert.ReferenceIdeal.S_ .f32 0xC2700000#32)))
          (Host.dotGeneral Cert.ReferenceIdeal.dot_S4096x4096_S4096x2048_S4096x2048_1_0_0_1_n_n none x w))))))

/-- By number: the product divided by one plus the exponential of the negative of the clipped product. -/
theorem refOut_at (x : FVec Ideal Cert.ReferenceIdeal.S4096x4096 .f32) (w : FVec Ideal Cert.ReferenceIdeal.S4096x2048 .f32) (r : Fin 4096) (j : Fin 2048) :
    refOut x w (ix2 r j)
      = Ideal.div (dotAt x w r j) (1 + Ideal.exp (-(min ((60 : ℝ) : EReal) (max (-((60 : ℝ) : EReal)) (dotAt x w r j))))) := by
  have hd : Host.dotGeneral Cert.ReferenceIdeal.dot_S4096x4096_S4096x2048_S4096x2048_1_0_0_1_n_n none x w (ix2 r j) = dotAt x w r j :=
    StackMember.dotGeneral_plain_apply none x w r j
  have e : refOut x w (ix2 r j)
      = Ideal.div (Host.dotGeneral Cert.ReferenceIdeal.dot_S4096x4096_S4096x2048_S4096x2048_1_0_0_1_n_n none x w (ix2 r j))
          (Ideal.ofBits .f32 0x3F800000#32 + Ideal.exp (-(min (Ideal.ofBits .f32 0x42700000#32) (max (Ideal.ofBits .f32 0xC2700000#32)
            (Host.dotGeneral Cert.ReferenceIdeal.dot_S4096x4096_S4096x2048_S4096x2048_1_0_0_1_n_n none x w (ix2 r j)))))) := rfl
  rw [e, hd, Silu.sixty, Silu.neg_sixty, Ideal.ofBits_one_f32]

/-! ## The equation -/

/-- Where each device holds its rows of `x` and all the weights and its products are within ±60, it ends with its
columns of the reference's result. -/
theorem out_eq (x : FVec Ideal Cert.ReferenceIdeal.S4096x4096 .f32) (w : FVec Ideal Cert.ReferenceIdeal.S4096x2048 .f32)
    (hx : ∀ s : Dev nD, m ((s : Thread nD τ).loc main_arg0) = Layout.block ⟨2, ![1024, 4096]⟩ ⟨2, ![4096, 4096]⟩ 0 4 s x)
    (hw : ∀ s : Dev nD, m ((s : Thread nD τ).loc main_arg1) = w)
    (hp : ∀ s : Dev nD, Cert.Pre_in_range_KernelIdeal.fn (F := Ideal) (m ((s : Thread nD τ).loc main_arg0)) (m ((s : Thread nD τ).loc main_arg1)) = fun _ => 1#1)
    (c : Dev nD) : outG m c = Layout.block ⟨2, ![4096, 512]⟩ ⟨2, ![4096, 2048]⟩ 1 4 c (refOut x w) := by
  funext i
  have hi : (i 0).val < 4096 := (i 0).isLt
  have hj : (i 1).val < 512 := (i 1).isLt
  have hc : c.val < 4 := c.isLt
  have hr : 256 * ((i 0).val % 1024 / 256) + (i 0).val % 256 < 1024 := by omega
  have hl : 512 * c.val + (i 1).val < 2048 := by omega
  have hd : dotAt (m (((⟨(i 0).val / 1024, row_dev i⟩ : Dev nD) : Thread nD τ).loc main_arg0)) (m (((⟨(i 0).val / 1024, row_dev i⟩ : Dev nD) : Thread nD τ).loc main_arg1))
      (⟨256 * ((i 0).val % 1024 / 256) + (i 0).val % 256, hr⟩ : Fin 1024) (⟨512 * c.val + (i 1).val, hl⟩ : Fin 2048)
      = dotAt x w (⟨(i 0).val, hi⟩ : Fin 4096) (⟨512 * c.val + (i 1).val, hl⟩ : Fin 2048) := by
    rw [hx, hw]
    refine Finset.sum_congr rfl fun k _ => congrArg (· * _) (congrArg x ?_)
    refine Shape.idx_ext₂ ?_ ?_
    · show (i 0).val / 1024 * 1024 + (256 * ((i 0).val % 1024 / 256) + (i 0).val % 256) = (i 0).val; omega
    · rfl
  have hb := bound_of_pre _ _ (hp ⟨(i 0).val / 1024, row_dev i⟩) ⟨256 * ((i 0).val % 1024 / 256) + (i 0).val % 256, hr⟩ ⟨512 * c.val + (i 1).val, hl⟩
  have e : (Layout.block ⟨2, ![4096, 512]⟩ ⟨2, ![4096, 2048]⟩ 1 4 c (refOut x w)) i = refOut x w (ix2 (⟨(i 0).val, hi⟩ : Fin 4096) (⟨512 * c.val + (i 1).val, hl⟩ : Fin 2048)) := by
    refine congrArg (refOut x w) (Shape.idx_ext₂ rfl ?_)
    show c.val * 512 + (i 1).val = 512 * c.val + (i 1).val; omega
  rw [e, refOut_at]
  unfold outG
  rw [piece_eq]
  rw [hd] at hb
  have ht := tile_dot m ⟨(i 0).val / 1024, row_dev i⟩ c ⟨(i 0).val % 1024 / 256, row_piece i⟩ ⟨(i 0).val % 256, Nat.mod_lt _ (by decide)⟩ ⟨(i 1).val, hj⟩ hr hl
  refine (own_at _ _ _ _).trans ?_
  exact (congrArg (fun y => y * Ideal.logistic y) (ht.trans hd)).trans (Silu.silu_eq hb)

end Cert.Mesh
-- ==== Proof.lean ====
/-
# The claims, assembled

The kernel's program and its idealization are the same text, so one run (Proof/Launch.lean, over any floats) gives the
frames of both. The reference runs on one device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Finish
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel's program at bits and its idealization at bits have the same body, -/
theorem bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- so the same table of functions. -/
theorem tables : Cert.Kernel.defs (F := Bits) = Cert.KernelIdeal.defs (F := Bits) := by
  unfold Cert.Kernel.defs Cert.KernelIdeal.defs
  exact congrArg (Pipeline.defs _) bodies

theorem frame_kernel : Cert.quiescent_Kernel := fun m ρ _ => by
  rw [tables]; exact Cert.Mesh.run_frame (F := Bits) m ρ
theorem frame_ideal : Cert.quiescent_KernelIdeal := fun m ρ _ => Cert.Mesh.run_frame (F := Ideal) m ρ
theorem frame_ideal_pre : Cert.quiescent_KernelIdeal_pre_in_range_KernelIdeal := fun m ρ _ => Cert.Mesh.run_frame (F := Ideal) m ρ

/-- The reference only computes, so it changes no counter. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ => reference_run m ρ
theorem frame_reference_pre : Cert.quiescent_ReferenceIdeal_pre_in_range_ReferenceIdeal := fun m ρ _ => reference_run m ρ

/-- Where the products are within ±60, the kernel's columns are the reference's. -/
theorem equation : Cert.algebraic_KernelIdeal_ReferenceIdeal_pre_in_range_KernelIdeal := fun m g m' g' hpre hargs => by
  refine ⟨Cert.Mesh.refOut _ _, ?_, (θ_run _ _ _).mono (fun r h => h 0) (Cert.ReferenceIdeal.Value.run (F := Ideal) m' g')⟩
  refine (θ_run _ _ _).mono (fun r h c => ⟨(h c).1.trans ?_, (h c).2⟩) (Cert.Mesh.run_value (F := Ideal) m g)
  exact Cert.Mesh.out_eq m _ _ (fun s => (hargs s).1) (fun s => (hargs s).2) (fun s => hpre s) c

theorem claim : Cert.Claim := ⟨Cert.Kernel.Gen.facts, Cert.KernelIdeal.Gen.facts, Cert.ReferenceIdeal.Gen.facts,
  Cert.Pre_in_range_KernelIdeal.Gen.facts, Cert.Pre_in_range_ReferenceIdeal.Gen.facts,
  frame_kernel, frame_ideal, frame_ideal_pre, frame_reference, frame_reference_pre, trivial, equation⟩

end Cert.Proof

end
